-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x40 : Shape := ⟨2, ![32768, 40]⟩
abbrev S32768x20 : Shape := ⟨2, ![32768, 20]⟩
abbrev S32768x10 : Shape := ⟨2, ![32768, 10]⟩
abbrev S40 : Shape := ⟨1, ![40]⟩
abbrev S40x40 : Shape := ⟨2, ![40, 40]⟩
abbrev S40x20 : Shape := ⟨2, ![40, 20]⟩
abbrev S20 : Shape := ⟨1, ![20]⟩
abbrev S10x10 : Shape := ⟨2, ![10, 10]⟩
abbrev S10 : Shape := ⟨1, ![10]⟩
abbrev S10x40 : Shape := ⟨2, ![10, 40]⟩
abbrev S_ : Shape := ⟨0, ![]⟩

class Facts : Prop where
  bcast_S_S32768x40 : S_.BroadcastsInDim S32768x40 (![] : Fin 0 → Fin S32768x40.rank)
  bcast_S_S32768x10 : S_.BroadcastsInDim S32768x10 (![] : Fin 0 → Fin S32768x10.rank)
  bcast_S_S40 : S_.BroadcastsInDim S40 (![] : Fin 0 → Fin S40.rank)
  bcast_S_S40x40 : S_.BroadcastsInDim S40x40 (![] : Fin 0 → Fin S40x40.rank)
  bcast_S_S40x20 : S_.BroadcastsInDim S40x20 (![] : Fin 0 → Fin S40x20.rank)
  bcast_S_S20 : S_.BroadcastsInDim S20 (![] : Fin 0 → Fin S20.rank)
  bcast_S_S10x10 : S_.BroadcastsInDim S10x10 (![] : Fin 0 → Fin S10x10.rank)
  bcast_S_S10 : S_.BroadcastsInDim S10 (![] : Fin 0 → Fin S10.rank)
  bcast_S_S10x40 : S_.BroadcastsInDim S10x40 (![] : Fin 0 → Fin S10x40.rank)

variable [Facts]

def fn_part1 {F : FTy → Type} [FloatOps F] (main_arg7 : FVec F S40x20 .f32) (main_arg8 : FVec F S20 .f32) (main_arg9 : FVec F S10x10 .f32) (main_arg10 : FVec F S10 .f32) (main_arg11 : FVec F S10x40 .f32) (main_arg12 : FVec F S40 .f32) (main_v2 : IVec S32768x40 1) (main_v5 : IVec S32768x10 1) (main_v8 : IVec S40 1) (main_v11 : IVec S40 1) (main_v14 : IVec S40x40 1) (main_v17 : IVec S40 1) : IVec S32768x40 1 × IVec S32768x10 1 × IVec S40 1 × IVec S40 1 × IVec S40x40 1 × IVec S40 1 × IVec S40x20 1 × IVec S20 1 × IVec S10x10 1 × IVec S10 1 × IVec S10x40 1 × IVec S40 1 :=
  let main_v18 : FVec F S40x20 .f32 := Host.absf main_arg7
  let main_cst_5 : FVec F S_ .f32 := constant S_ .f32 0x7F800000#32
  let main_v19 : FVec F S40x20 .f32 := broadcastInDim S40x20 ![] bcast_S_S40x20 main_cst_5
  let main_v20 : IVec S40x20 1 := cmpf .olt main_v18 main_v19
  let main_v21 : FVec F S20 .f32 := Host.absf main_arg8
  let main_cst_6 : FVec F S_ .f32 := constant S_ .f32 0x7F800000#32
  let main_v22 : FVec F S20 .f32 := broadcastInDim S20 ![] bcast_S_S20 main_cst_6
  let main_v23 : IVec S20 1 := cmpf .olt main_v21 main_v22
  let main_v24 : FVec F S10x10 .f32 := Host.absf main_arg9
  let main_cst_7 : FVec F S_ .f32 := constant S_ .f32 0x7F800000#32
  let main_v25 : FVec F S10x10 .f32 := broadcastInDim S10x10 ![] bcast_S_S10x10 main_cst_7
  let main_v26 : IVec S10x10 1 := cmpf .olt main_v24 main_v25
  let main_v27 : FVec F S10 .f32 := Host.absf main_arg10
  let main_cst_8 : FVec F S_ .f32 := constant S_ .f32 0x7F800000#32
  let main_v28 : FVec F S10 .f32 := broadcastInDim S10 ![] bcast_S_S10 main_cst_8
  let main_v29 : IVec S10 1 := cmpf .olt main_v27 main_v28
  let main_v30 : FVec F S10x40 .f32 := Host.absf main_arg11
  let main_cst_9 : FVec F S_ .f32 := constant S_ .f32 0x7F800000#32
  let main_v31 : FVec F S10x40 .f32 := broadcastInDim S10x40 ![] bcast_S_S10x40 main_cst_9
  let main_v32 : IVec S10x40 1 := cmpf .olt main_v30 main_v31
  let main_v33 : FVec F S40 .f32 := Host.absf main_arg12
  let main_cst_10 : FVec F S_ .f32 := constant S_ .f32 0x7F800000#32
  let main_v34 : FVec F S40 .f32 := broadcastInDim S40 ![] bcast_S_S40 main_cst_10
  let main_v35 : IVec S40 1 := cmpf .olt main_v33 main_v34
  (main_v2, main_v5, main_v8, main_v11, main_v14, main_v17, main_v20, main_v23, main_v26, main_v29, main_v32, main_v35)

def fn {F : FTy → Type} [FloatOps F] (main_arg0 : FVec F S32768x40 .f32) (main_arg1 : IVec S32768x20 1) (main_arg2 : FVec F S32768x10 .f32) (main_arg3 : FVec F S40 .f32) (main_arg4 : FVec F S40 .f32) (main_arg5 : FVec F S40x40 .f32) (main_arg6 : FVec F S40 .f32) (main_arg7 : FVec F S40x20 .f32) (main_arg8 : FVec F S20 .f32) (main_arg9 : FVec F S10x10 .f32) (main_arg10 : FVec F S10 .f32) (main_arg11 : FVec F S10x40 .f32) (main_arg12 : FVec F S40 .f32) : IVec S32768x40 1 × IVec S32768x10 1 × IVec S40 1 × IVec S40 1 × IVec S40x40 1 × IVec S40 1 × IVec S40x20 1 × IVec S20 1 × IVec S10x10 1 × IVec S10 1 × IVec S10x40 1 × IVec S40 1 :=
  let main_v0 : FVec F S32768x40 .f32 := Host.absf main_arg0
  let main_cst : FVec F S_ .f32 := constant S_ .f32 0x7F800000#32
  let main_v1 : FVec F S32768x40 .f32 := broadcastInDim S32768x40 ![] bcast_S_S32768x40 main_cst
  let main_v2 : IVec S32768x40 1 := cmpf .olt main_v0 main_v1
  let main_v3 : FVec F S32768x10 .f32 := Host.absf main_arg2
  let main_cst_0 : FVec F S_ .f32 := constant S_ .f32 0x7F800000#32
  let main_v4 : FVec F S32768x10 .f32 := broadcastInDim S32768x10 ![] bcast_S_S32768x10 main_cst_0
  let main_v5 : IVec S32768x10 1 := cmpf .olt main_v3 main_v4
  let main_v6 : FVec F S40 .f32 := Host.absf main_arg3
  let main_cst_1 : FVec F S_ .f32 := constant S_ .f32 0x7F800000#32
  let main_v7 : FVec F S40 .f32 := broadcastInDim S40 ![] bcast_S_S40 main_cst_1
  let main_v8 : IVec S40 1 := cmpf .olt main_v6 main_v7
  let main_v9 : FVec F S40 .f32 := Host.absf main_arg4
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_v12 : FVec F S40x40 .f32 := Host.absf main_arg5
  let main_cst_3 : FVec F S_ .f32 := constant S_ .f32 0x7F800000#32
  let main_v13 : FVec F S40x40 .f32 := broadcastInDim S40x40 ![] bcast_S_S40x40 main_cst_3
  let main_v14 : IVec S40x40 1 := cmpf .olt main_v12 main_v13
  let main_v15 : FVec F S40 .f32 := Host.absf main_arg6
  let main_cst_4 : FVec F S_ .f32 := constant S_ .f32 0x7F800000#32
  let main_v16 : FVec F S40 .f32 := broadcastInDim S40 ![] bcast_S_S40 main_cst_4
  let main_v17 : IVec S40 1 := cmpf .olt main_v15 main_v16
  fn_part1 (F := F) main_arg7 main_arg8 main_arg9 main_arg10 main_arg11 main_arg12 main_v2 main_v5 main_v8 main_v11 main_v14 main_v17
-- ==== Kernel.lean ====
abbrev S32768x40 : Shape := ⟨2, ![32768, 40]⟩
abbrev S32768x20 : Shape := ⟨2, ![32768, 20]⟩
abbrev S32768x10 : Shape := ⟨2, ![32768, 10]⟩
abbrev S40 : Shape := ⟨1, ![40]⟩
abbrev S40x40 : Shape := ⟨2, ![40, 40]⟩
abbrev S40x20 : Shape := ⟨2, ![40, 20]⟩
abbrev S20 : Shape := ⟨1, ![20]⟩
abbrev S10x10 : Shape := ⟨2, ![10, 10]⟩
abbrev S10 : Shape := ⟨1, ![10]⟩
abbrev S10x40 : Shape := ⟨2, ![10, 40]⟩
abbrev S40x32768 : Shape := ⟨2, ![40, 32768]⟩
abbrev S20x32768 : Shape := ⟨2, ![20, 32768]⟩
abbrev S10x32768 : Shape := ⟨2, ![10, 32768]⟩
abbrev S1x40 : Shape := ⟨2, ![1, 40]⟩
abbrev S20x40 : Shape := ⟨2, ![20, 40]⟩
abbrev S1x20 : Shape := ⟨2, ![1, 20]⟩
abbrev S1x10 : Shape := ⟨2, ![1, 10]⟩
abbrev S1x1 : Shape := ⟨2, ![1, 1]⟩
abbrev S40x16384 : Shape := ⟨2, ![40, 16384]⟩
abbrev S20x16384 : Shape := ⟨2, ![20, 16384]⟩
abbrev S10x16384 : Shape := ⟨2, ![10, 16384]⟩
abbrev S1x3 : Shape := ⟨2, ![1, 3]⟩
abbrev S40x1 : Shape := ⟨2, ![40, 1]⟩
abbrev S10x1 : Shape := ⟨2, ![10, 1]⟩
abbrev S1x40x16384 : Shape := ⟨3, ![1, 40, 16384]⟩
abbrev S1 : Shape := ⟨1, ![1]⟩
abbrev S1x1x1 : Shape := ⟨3, ![1, 1, 1]⟩
abbrev S1x10x16384 : Shape := ⟨3, ![1, 10, 16384]⟩
abbrev S_ : Shape := ⟨0, ![]⟩

abbrev nBuf : Space → Nat
  | .hbm => 27
  | .vmem => 18
  | .smem => 0
  | _ => 0

abbrev bufTy : (tb : Table) → Fin (tcTables nBuf tb) → BufTy
  | .hbm, ⟨0, _⟩ => ⟨S32768x40, .f32⟩
  | .hbm, ⟨1, _⟩ => ⟨S32768x20, .i1⟩
  | .hbm, ⟨2, _⟩ => ⟨S32768x10, .f32⟩
  | .hbm, ⟨3, _⟩ => ⟨S40, .f32⟩
  | .hbm, ⟨4, _⟩ => ⟨S40, .f32⟩
  | .hbm, ⟨5, _⟩ => ⟨S40x40, .f32⟩
  | .hbm, ⟨6, _⟩ => ⟨S40, .f32⟩
  | .hbm, ⟨7, _⟩ => ⟨S40x20, .f32⟩
  | .hbm, ⟨8, _⟩ => ⟨S20, .f32⟩
  | .hbm, ⟨9, _⟩ => ⟨S10x10, .f32⟩
  | .hbm, ⟨10, _⟩ => ⟨S10, .f32⟩
  | .hbm, ⟨11, _⟩ => ⟨S10x40, .f32⟩
  | .hbm, ⟨12, _⟩ => ⟨S40, .f32⟩
  | .hbm, ⟨13, _⟩ => ⟨S40x32768, .f32⟩
  | .hbm, ⟨14, _⟩ => ⟨S32768x20, .i8⟩
  | .hbm, ⟨15, _⟩ => ⟨S32768x20, .i8⟩
  | .hbm, ⟨16, _⟩ => ⟨S20x32768, .i8⟩
  | .hbm, ⟨17, _⟩ => ⟨S10x32768, .f32⟩
  | .hbm, ⟨18, _⟩ => ⟨S1x40, .f32⟩
  | .hbm, ⟨19, _⟩ => ⟨S1x40, .f32⟩
  | .hbm, ⟨20, _⟩ => ⟨S1x40, .f32⟩
  | .hbm, ⟨21, _⟩ => ⟨S20x40, .f32⟩
  | .hbm, ⟨22, _⟩ => ⟨S1x20, .f32⟩
  | .hbm, ⟨23, _⟩ => ⟨S1x10, .f32⟩
  | .hbm, ⟨24, _⟩ => ⟨S1x40, .f32⟩
  | .hbm, ⟨25, _⟩ => ⟨S1x1, .f32⟩
  | .hbm, ⟨26, _⟩ => ⟨S_, .f32⟩
  | .local _ .vmem, ⟨0, _⟩ => ⟨S40x16384, .f32⟩
  | .local _ .vmem, ⟨1, _⟩ => ⟨S40x16384, .f32⟩
  | .local _ .vmem, ⟨2, _⟩ => ⟨S20x16384, .i8⟩
  | .local _ .vmem, ⟨3, _⟩ => ⟨S20x16384, .i8⟩
  | .local _ .vmem, ⟨4, _⟩ => ⟨S10x16384, .f32⟩
  | .local _ .vmem, ⟨5, _⟩ => ⟨S10x16384, .f32⟩
  | .local _ .vmem, ⟨6, _⟩ => ⟨S1x40, .f32⟩
  | .local _ .vmem, ⟨7, _⟩ => ⟨S1x40, .f32⟩
  | .local _ .vmem, ⟨8, _⟩ => ⟨S40x40, .f32⟩
  | .local _ .vmem, ⟨9, _⟩ => ⟨S1x40, .f32⟩
  | .local _ .vmem, ⟨10, _⟩ => ⟨S20x40, .f32⟩
  | .local _ .vmem, ⟨11, _⟩ => ⟨S1x20, .f32⟩
  | .local _ .vmem, ⟨12, _⟩ => ⟨S10x10, .f32⟩
  | .local _ .vmem, ⟨13, _⟩ => ⟨S1x10, .f32⟩
  | .local _ .vmem, ⟨14, _⟩ => ⟨S10x40, .f32⟩
  | .local _ .vmem, ⟨15, _⟩ => ⟨S1x40, .f32⟩
  | .local _ .vmem, ⟨16, _⟩ => ⟨S1x1, .f32⟩
  | .local _ .vmem, ⟨17, _⟩ => ⟨S1x3, .f32⟩
  | _, _ => ⟨S32768x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v116 : BitVec 1 := Scalar.cmpi .eq arg0 c1_i32
  let v117 : BitVec 32 := Scalar.extui v116
  let c0_i32_53 : BitVec 32 := 0#32
  let v118 : BitVec 1 := Scalar.cmpi .ne v117 c0_i32_53
  v118

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S40x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x16384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x40 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S32768x40 : Shape := ⟨2, ![32768, 40]⟩
abbrev S32768x20 : Shape := ⟨2, ![32768, 20]⟩
abbrev S32768x10 : Shape := ⟨2, ![32768, 10]⟩
abbrev S40 : Shape := ⟨1, ![40]⟩
abbrev S40x40 : Shape := ⟨2, ![40, 40]⟩
abbrev S40x20 : Shape := ⟨2, ![40, 20]⟩
abbrev S20 : Shape := ⟨1, ![20]⟩
abbrev S10x10 : Shape := ⟨2, ![10, 10]⟩
abbrev S10 : Shape := ⟨1, ![10]⟩
abbrev S10x40 : Shape := ⟨2, ![10, 40]⟩
abbrev S1x40 : Shape := ⟨2, ![1, 40]⟩
abbrev S_ : Shape := ⟨0, ![]⟩
abbrev S1x20 : Shape := ⟨2, ![1, 20]⟩
abbrev S1x10 : Shape := ⟨2, ![1, 10]⟩
abbrev S32768x20x1 : Shape := ⟨3, ![32768, 20, 1]⟩
abbrev S32768x20x2 : Shape := ⟨3, ![32768, 20, 2]⟩
abbrev S1x32768x1x20 : Shape := ⟨4, ![1, 32768, 1, 20]⟩
abbrev S1x32768x2x20 : Shape := ⟨4, ![1, 32768, 2, 20]⟩
abbrev S32768 : Shape := ⟨1, ![32768]⟩

abbrev nBuf : Space → Nat
  | .hbm => 126
  | .vmem => 0
  | .smem => 0
  | _ => 0

abbrev bufTy : (tb : Table) → Fin (tcTables nBuf tb) → BufTy
  | .hbm, ⟨0, _⟩ => ⟨S32768x40, .f32⟩
  | .hbm, ⟨1, _⟩ => ⟨S32768x20, .i1⟩
  | .hbm, ⟨2, _⟩ => ⟨S32768x10, .f32⟩
  | .hbm, ⟨3, _⟩ => ⟨S40, .f32⟩
  | .hbm, ⟨4, _⟩ => ⟨S40, .f32⟩
  | .hbm, ⟨5, _⟩ => ⟨S40x40, .f32⟩
  | .hbm, ⟨6, _⟩ => ⟨S40, .f32⟩
  | .hbm, ⟨7, _⟩ => ⟨S40x20, .f32⟩
  | .hbm, ⟨8, _⟩ => ⟨S20, .f32⟩
  | .hbm, ⟨9, _⟩ => ⟨S10x10, .f32⟩
  | .hbm, ⟨10, _⟩ => ⟨S10, .f32⟩
  | .hbm, ⟨11, _⟩ => ⟨S10x40, .f32⟩
  | .hbm, ⟨12, _⟩ => ⟨S40, .f32⟩
  | .hbm, ⟨13, _⟩ => ⟨S1x40, .f32⟩
  | .hbm, ⟨14, _⟩ => ⟨S32768x40, .f32⟩
  | .hbm, ⟨15, _⟩ => ⟨S32768x40, .f32⟩
  | .hbm, ⟨16, _⟩ => ⟨S1x40, .f32⟩
  | .hbm, ⟨17, _⟩ => ⟨S32768x40, .f32⟩
  | .hbm, ⟨18, _⟩ => ⟨S32768x40, .f32⟩
  | .hbm, ⟨19, _⟩ => ⟨S32768x40, .f32⟩
  | .hbm, ⟨20, _⟩ => ⟨S1x40, .f32⟩
  | .hbm, ⟨21, _⟩ => ⟨S32768x40, .f32⟩
  | .hbm, ⟨22, _⟩ => ⟨S32768x40, .f32⟩
  | .hbm, ⟨23, _⟩ => ⟨S_, .f32⟩
  | .hbm, ⟨24, _⟩ => ⟨S32768x40, .f32⟩
  | .hbm, ⟨25, _⟩ => ⟨S32768x40, .f32⟩
  | .hbm, ⟨26, _⟩ => ⟨S32768x20, .f32⟩
  | .hbm, ⟨27, _⟩ => ⟨S1x20, .f32⟩
  | .hbm, ⟨28, _⟩ => ⟨S32768x20, .f32⟩
  | .hbm, ⟨29, _⟩ => ⟨S32768x20, .f32⟩
  | .hbm, ⟨30, _⟩ => ⟨S32768x10, .f32⟩
  | .hbm, ⟨31, _⟩ => ⟨S32768x10, .f32⟩
  | .hbm, ⟨32, _⟩ => ⟨S_, .f32⟩
  | .hbm, ⟨33, _⟩ => ⟨S32768x10, .f32⟩
  | .hbm, ⟨34, _⟩ => ⟨S32768x10, .f32⟩
  | .hbm, ⟨35, _⟩ => ⟨S32768x10, .f32⟩
  | .hbm, ⟨36, _⟩ => ⟨S32768x10, .f32⟩
  | .hbm, ⟨37, _⟩ => ⟨S32768x10, .f32⟩
  | .hbm, ⟨38, _⟩ => ⟨S32768x10, .f32⟩
  | .hbm, ⟨39, _⟩ => ⟨S1x10, .f32⟩
  | .hbm, ⟨40, _⟩ => ⟨S32768x10, .f32⟩
  | .hbm, ⟨41, _⟩ => ⟨S32768x10, .f32⟩
  | .hbm, ⟨42, _⟩ => ⟨S_, .f32⟩
  | .hbm, ⟨43, _⟩ => ⟨S32768x10, .f32⟩
  | .hbm, ⟨44, _⟩ => ⟨S32768x10, .f32⟩
  | .hbm, ⟨45, _⟩ => ⟨S32768x40, .f32⟩
  | .hbm, ⟨46, _⟩ => ⟨S1x40, .f32⟩
  | .hbm, ⟨47, _⟩ => ⟨S32768x40, .f32⟩
  | .hbm, ⟨48, _⟩ => ⟨S32768x40, .f32⟩
  | .hbm, ⟨49, _⟩ => ⟨S32768x20, .f32⟩
  | .hbm, ⟨50, _⟩ => ⟨S32768x20, .f32⟩
  | .hbm, ⟨51, _⟩ => ⟨S32768x20, .f32⟩
  | .hbm, ⟨52, _⟩ => ⟨S32768x20, .f32⟩
  | .hbm, ⟨53, _⟩ => ⟨S32768x20, .f32⟩
  | .hbm, ⟨54, _⟩ => ⟨S32768x20x1, .f32⟩
  | .hbm, ⟨55, _⟩ => ⟨S32768x20x1, .f32⟩
  | .hbm, ⟨56, _⟩ => ⟨S32768x20x2, .f32⟩
  | .hbm, ⟨57, _⟩ => ⟨S32768x20x1, .f32⟩
  | .hbm, ⟨58, _⟩ => ⟨S32768x20x1, .f32⟩
  | .hbm, ⟨59, _⟩ => ⟨S32768x20x2, .f32⟩
  | .hbm, ⟨60, _⟩ => ⟨S32768x20x2, .f32⟩
  | .hbm, ⟨61, _⟩ => ⟨S32768x20x2, .f32⟩
  | .hbm, ⟨62, _⟩ => ⟨S_, .f32⟩
  | .hbm, ⟨63, _⟩ => ⟨S32768x20, .f32⟩
  | .hbm, ⟨64, _⟩ => ⟨S_, .f32⟩
  | .hbm, ⟨65, _⟩ => ⟨S32768x20, .f32⟩
  | .hbm, ⟨66, _⟩ => ⟨S32768x20, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S32768x20, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1x32768x1x20, .f32⟩
  | .hbm, ⟨76, _⟩ => ⟨S1x32768x2x20, .f32⟩
  | .hbm, ⟨77, _⟩ => ⟨S32768x40, .f32⟩
  | .hbm, ⟨78, _⟩ => ⟨S_, .f32⟩
  | .hbm, ⟨79, _⟩ => ⟨S32768x40, .f32⟩
  | .hbm, ⟨80, _⟩ => ⟨S32768x40, .f32⟩
  | .hbm, ⟨81, _⟩ => ⟨S32768x40, .f32⟩
  | .hbm, ⟨82, _⟩ => ⟨S32768x40, .f32⟩
  | .hbm, ⟨83, _⟩ => ⟨S32768x40, .f32⟩
  | .hbm, ⟨84, _⟩ => ⟨S32768x40, .f32⟩
  | .hbm, ⟨85, _⟩ => ⟨S32768x40, .f32⟩
  | .hbm, ⟨86, _⟩ => ⟨S32768x40, .f32⟩
  | .hbm, ⟨87, _⟩ => ⟨S32768x40, .f32⟩
  | .hbm, ⟨88, _⟩ => ⟨S32768x40, .f32⟩
  | .hbm, ⟨89, _⟩ => ⟨S_, .f32⟩
  | .hbm, ⟨90, _⟩ => ⟨S32768, .f32⟩
  | .hbm, ⟨91, _⟩ => ⟨S32768, .f32⟩
  | .hbm, ⟨92, _⟩ => ⟨S_, .f32⟩
  | .hbm, ⟨93, _⟩ => ⟨S_, .f32⟩
  | .hbm, ⟨94, _⟩ => ⟨S32768x10, .f32⟩
  | .hbm, ⟨95, _⟩ => ⟨S_, .f32⟩
  | .hbm, ⟨96, _⟩ => ⟨S32768x10, .f32⟩
  | .hbm, ⟨97, _⟩ => ⟨S32768x10, .f32⟩
  | .hbm, ⟨98, _⟩ => ⟨S_, .f32⟩
  | .hbm, ⟨99, _⟩ => ⟨S32768x10, .f32⟩
  | .hbm, ⟨100, _⟩ => ⟨S32768x10, .f32⟩
  | .hbm, ⟨101, _⟩ => ⟨S_, .f32⟩
  | .hbm, ⟨102, _⟩ => ⟨S32768, .f32⟩
  | .hbm, ⟨103, _⟩ => ⟨S32768x10, .f32⟩
  | .hbm, ⟨104, _⟩ => ⟨S32768x10, .f32⟩
  | .hbm, ⟨105, _⟩ => ⟨S32768x10, .f32⟩
  | .hbm, ⟨106, _⟩ => ⟨S32768x10, .f32⟩
  | .hbm, ⟨107, _⟩ => ⟨S32768x10, .f32⟩
  | .hbm, ⟨108, _⟩ => ⟨S32768x10, .f32⟩
  | .hbm, ⟨109, _⟩ => ⟨S_, .f32⟩
  | .hbm, ⟨110, _⟩ => ⟨S32768x10, .f32⟩
  | .hbm, ⟨111, _⟩ => ⟨S32768x10, .f32⟩
  | .hbm, ⟨112, _⟩ => ⟨S_, .f32⟩
  | .hbm, ⟨113, _⟩ => ⟨S32768x10, .f32⟩
  | .hbm, ⟨114, _⟩ => ⟨S32768x10, .f32⟩
  | .hbm, ⟨115, _⟩ => ⟨S_, .f32⟩
  | .hbm, ⟨116, _⟩ => ⟨S32768, .f32⟩
  | .hbm, ⟨117, _⟩ => ⟨S32768, .f32⟩
  | .hbm, ⟨118, _⟩ => ⟨S32768, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S32768x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_0 : Ref sig .tc := ⟨.hbm, 62, rfl⟩
abbrev main_v44 : Ref sig .tc := ⟨.hbm, 63, rfl⟩
abbrev main_cst_1 : Ref sig .tc := ⟨.hbm, 64, rfl⟩
abbrev main_v45 : Ref sig .tc := ⟨.hbm, 65, rfl⟩
abbrev main_v46 : Ref sig .tc := ⟨.hbm, 66, rfl⟩
abbrev main_cst_2 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_8 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_10 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_12 : Ref sig .tc := ⟨.hbm, 119, rfl⟩
abbrev main_v89 : Ref sig .tc := ⟨.hbm, 120, rfl⟩
abbrev main_cst_13 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== Proof.Rows.lean ====
/-
  The model on ONE row, over the real numbers: the encoder, the sample, the decoder, and the four numbers a row
  contributes to the loss. Nothing here mentions a program. Both programs are shown to compute these functions.
-/
module

public import Mathlib.Analysis.SpecialFunctions.Log.Basic
public import Mathlib.Algebra.BigOperators.Fin

@[expose] public section

noncomputable section

namespace Cert.Model

/-- The model's weights as real numbers. -/
structure Weights where
  /-- the input's per-feature scale -/
  w : Fin 40 → ℝ
  /-- the input's per-feature shift -/
  b : Fin 40 → ℝ
  /-- the encoder's first layer -/
  W1 : Fin 40 → Fin 40 → ℝ
  /-- its bias -/
  b1 : Fin 40 → ℝ
  /-- the encoder's second layer -/
  W2 : Fin 40 → Fin 20 → ℝ
  /-- its bias -/
  b2 : Fin 20 → ℝ
  /-- the decoder's first layer -/
  G1 : Fin 10 → Fin 10 → ℝ
  /-- its bias -/
  c1 : Fin 10 → ℝ
  /-- the decoder's second layer -/
  G2 : Fin 10 → Fin 40 → ℝ
  /-- its bias -/
  c2 : Fin 40 → ℝ

variable (p : Weights) (x : Fin 40 → ℝ) (e : Fin 10 → ℝ) (a : Fin 20 → ℝ)

/-- The hidden layer: `relu ((w * x + b) @ W1 + b1)`. -/
def hid (j : Fin 40) : ℝ := max ((∑ k, (p.w k * x k + p.b k) * p.W1 k j) + p.b1 j) 0

/-- The encoder's output: the means in columns 0 to 9, the log-variances in columns 10 to 19. -/
def enc (v : Fin 20) : ℝ := (∑ k, hid p x k * p.W2 k v) + p.b2 v

/-- Column `v` of the means. -/
def mu (v : Fin 10) : ℝ := enc p x ⟨v.val, by omega⟩

/-- Column `v` of the log-variances. -/
def lv (v : Fin 10) : ℝ := enc p x ⟨10 + v.val, by omega⟩

/-- The sample: `e * exp (lv / 2) + mu`. -/
def smp (v : Fin 10) : ℝ := e v * Real.exp (1 / 2 * lv p x v) + mu p x v

/-- The decoder's hidden layer. -/
def dec (k : Fin 10) : ℝ := max ((∑ v, smp p x e v * p.G1 v k) + p.c1 k) 0

/-- The decoder's output: 20 first coordinates, then 20 second coordinates. -/
def out (j : Fin 40) : ℝ := (∑ k, dec p x e k * p.G2 k j) + p.c2 j

/-- The point a column of the input belongs to: columns `j` and `20 + j` are the two coordinates of point `j`. -/
def pt (j : Fin 40) : Fin 20 := ⟨j.val % 20, Nat.mod_lt _ (by decide)⟩

/-- Coordinate `i` of point `k`: its column. -/
def col (i : Fin 2) (k : Fin 20) : Fin 40 := ⟨20 * i.val + k.val, by omega⟩

/-- The sigmoid cross-entropy of logit `u` and label `y`. -/
def xent (u y : ℝ) : ℝ := max u 0 - u * y + Real.log (1 + Real.exp (-max u (-u)))

/-- A row's masked squared error, both coordinates. -/
def rowSq : ℝ := ∑ j, (x j - out p x e j) * (x j - out p x e j) * a (pt j)

/-- A row's count of masked-in coordinates. -/
def rowCnt : ℝ := ∑ j : Fin 40, a (pt j)

/-- A row's masked cross-entropy. -/
def rowXent : ℝ := ∑ j, xent (out p x e j) (x j) * a (pt j)

/-- A row's divergence term, `Σ (s² - e² - lv)`. -/
def rowDiv : ℝ := ∑ v, (smp p x e v * smp p x e v - e v * e v - lv p x v)

/-- The loss from the four totals over all rows. -/
def loss (sq cnt xe dv : ℝ) : ℝ :=
  (xe + 1 / 2 * dv) * (1 / 32768) + Real.exp (1 / 2 * sq / max (1 / 2 * cnt) 1)

/-- The hidden layer as the kernel folds it: the scale into the weights, the shift into the bias. -/
theorem hid_fold (j : Fin 40) :
    max ((∑ k, (p.w k * p.W1 k j) * x k) + (p.b1 j + ∑ k, p.W1 k j * p.b k)) 0 = hid p x j := by
  unfold hid
  congr 1
  have h : ∀ k, (p.w k * x k + p.b k) * p.W1 k j = (p.w k * p.W1 k j) * x k + p.W1 k j * p.b k := fun k => by ring
  simp only [h, Finset.sum_add_distrib]
  ring

/-- A total over the columns is the total over the points of their two coordinates. -/
theorem sum_col (f : Fin 40 → ℝ) : ∑ j, f j = ∑ k, (f (col 0 k) + f (col 1 k)) := by
  rw [Finset.sum_add_distrib]
  have h := Fin.sum_univ_add (a := 20) (b := 20) f
  refine h.trans (congrArg₂ (· + ·) (Finset.sum_congr rfl fun k _ => congrArg f ?_)
    (Finset.sum_congr rfl fun k _ => congrArg f ?_))
  · exact Fin.ext (show k.val = 20 * 0 + k.val by omega)
  · exact Fin.ext (show 20 + k.val = 20 * 1 + k.val by omega)

/-- A coordinate of a point belongs to that point. -/
theorem pt_col (i : Fin 2) (k : Fin 20) : pt (col i k) = k := by
  refine Fin.ext ?_
  simp only [pt, col]
  omega

/-- A row's masked squared error, as the points' mean squared errors give it. -/
theorem rowSq_points : ∑ k, ((x (col 0 k) - out p x e (col 0 k)) * (x (col 0 k) - out p x e (col 0 k))
      + (x (col 1 k) - out p x e (col 1 k)) * (x (col 1 k) - out p x e (col 1 k))) / 2 * a k
    = 1 / 2 * rowSq p x e a := by
  unfold rowSq
  rw [sum_col, Finset.mul_sum]
  refine Finset.sum_congr rfl fun k _ => ?_
  rw [pt_col, pt_col]
  ring

/-- A row's count of masked-in points is half its count of coordinates. -/
theorem rowCnt_points : ∑ k, a k = 1 / 2 * rowCnt a := by
  unfold rowCnt
  rw [sum_col, Finset.mul_sum]
  refine Finset.sum_congr rfl fun k _ => ?_
  rw [pt_col, pt_col]
  ring

/-- The two log-densities' difference is minus half the divergence term: `s - mu` is `e * exp (lv / 2)`, so
    `(s - mu)² * exp (-lv)` is `e²`, and the logarithm `L` cancels. -/
theorem density_gap (L : ℝ) :
    (∑ v, (-(1 / 2)) * (smp p x e v * smp p x e v + L))
      - (∑ v, (-(1 / 2)) * ((smp p x e v - mu p x v) * (smp p x e v - mu p x v) * Real.exp (-lv p x v) + lv p x v + L))
      = -(1 / 2 * rowDiv p x e) := by
  have h : ∀ v, (smp p x e v - mu p x v) * (smp p x e v - mu p x v) * Real.exp (-lv p x v) = e v * e v := by
    intro v
    have e1 : smp p x e v - mu p x v = e v * Real.exp (1 / 2 * lv p x v) := by unfold smp; ring
    have e2 : Real.exp (1 / 2 * lv p x v) * Real.exp (1 / 2 * lv p x v) * Real.exp (-lv p x v) = 1 := by
      rw [← Real.exp_add, ← Real.exp_add, show 1 / 2 * lv p x v + 1 / 2 * lv p x v + -lv p x v = 0 by ring, Real.exp_zero]
    rw [e1]
    calc e v * Real.exp (1 / 2 * lv p x v) * (e v * Real.exp (1 / 2 * lv p x v)) * Real.exp (-lv p x v)
        = e v * e v * (Real.exp (1 / 2 * lv p x v) * Real.exp (1 / 2 * lv p x v) * Real.exp (-lv p x v)) := by ring
      _ = e v * e v := by rw [e2, mul_one]
  simp only [h]
  unfold rowDiv
  rw [← Finset.sum_sub_distrib, Finset.mul_sum, ← Finset.sum_neg_distrib]
  exact Finset.sum_congr rfl fun v _ => by ring

/-- The loss over all rows: rows `X`, noise `E`, mask `A`. -/
def total (X : Fin 32768 → Fin 40 → ℝ) (E : Fin 32768 → Fin 10 → ℝ) (A : Fin 32768 → Fin 20 → ℝ) : ℝ :=
  loss (∑ r, rowSq p (X r) (E r) (A r)) (∑ r, rowCnt (A r)) (∑ r, rowXent p (X r) (E r) (A r)) (∑ r, rowDiv p (X r) (E r))

end Cert.Model

end
-- ==== Proof.Reals.lean ====
/-
  Extended reals that are real numbers: the arithmetic of the ideal programs on the images of real numbers. Each
  statement moves one operation under the embedding of the reals.
-/
module

public import Idealize.ShloMosaic.PureOps.Ideal
public import Idealize.ShloMosaic.PureOps.Ideal.Laws

@[expose] public section

noncomputable section

namespace Cert.Model

open Idealize.ShloMosaic

/-- A finite sum of real numbers, taken in the extended reals, is the real sum. -/
theorem up_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- The larger of two real numbers, taken in the extended reals, is the larger of the two. -/
theorem up_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The positive part of a real number, taken in the extended reals, is the real one. -/
theorem up_max_zero (a : ℝ) : max (a : EReal) 0 = ((max a 0 : ℝ) : EReal) := up_max a 0

/-- Zero minus a real number is its negative. -/
theorem up_zero_sub (a : ℝ) : (0 : EReal) - (a : EReal) = ((-a : ℝ) : EReal) := by
  rw [← EReal.coe_zero, ← EReal.coe_sub, zero_sub]

/-- `log (1 + exp u)` is the real one: its argument is positive. -/
theorem up_log1p_exp (u : ℝ) : Ideal.log1p ((Real.exp u : ℝ) : EReal) = ((Real.log (1 + Real.exp u) : ℝ) : EReal) := by
  have h : ¬ (1 + Real.exp u ≤ 0) := not_le.mpr (by positivity)
  have e : Ideal.log1p ((Real.exp u : ℝ) : EReal) = Ideal.log (((1 + Real.exp u : ℝ)) : EReal) := by
    rw [EReal.coe_add, EReal.coe_one]; rfl
  rw [e, Ideal.log_coe, if_neg h]

/-- A quotient of real numbers with a nonzero divisor is the real quotient. -/
theorem up_div (a : ℝ) {b : ℝ} (h : b ≠ 0) : Ideal.div (a : EReal) (b : EReal) = ((a / b : ℝ) : EReal) := by
  rw [Ideal.div_coe h, ← EReal.coe_mul]; congr 1; ring

/-- The literal one half. -/
theorem half_lit : Ideal.ofBits .f32 0x3F000000#32 = ((1 / 2 : ℝ) : EReal) := by
  simp only [Ideal.ofBits, Ideal.ieee]
  simp
  rw [← EReal.coe_mul]
  norm_num

/-- The literal `2⁻¹⁵`, one over the number of rows. -/
theorem rows_inv_lit : Ideal.ofBits .f32 0x38000000#32 = ((1 / 32768 : ℝ) : EReal) := by
  simp only [Ideal.ofBits, Ideal.ieee]
  simp
  rw [← EReal.coe_mul]
  norm_num

/-- The literal two. -/
theorem two_lit : Ideal.ofBits .f32 0x40000000#32 = ((2 : ℝ) : EReal) := by
  simp only [Ideal.ofBits, Ideal.ieee]
  simp
  rw [← EReal.coe_mul]
  norm_num

/-- The literal minus one half. -/
theorem neg_half_lit : Ideal.ofBits .f32 0xBF000000#32 = ((-(1 / 2) : ℝ) : EReal) := by
  simp only [Ideal.ofBits, Ideal.ieee]
  simp
  rw [← EReal.coe_mul]
  norm_num

/-- The literal 32768, the number of rows. -/
theorem rows_lit : Ideal.ofBits .f32 0x47000000#32 = ((32768 : ℝ) : EReal) := by
  simp only [Ideal.ofBits, Ideal.ieee]
  simp
  rw [← EReal.coe_mul]
  norm_num

/-- The literal nearest `2π` has a real logarithm: it is a positive real. -/
theorem two_pi_log : ∃ L : ℝ, Ideal.log (Ideal.ofBits .f32 0x40C90FDB#32) = (L : EReal) := by
  have h : ∃ q : ℝ, 0 < q ∧ Ideal.ofBits .f32 0x40C90FDB#32 = (q : EReal) := by
    refine ⟨13176795 / 2097152, by norm_num, ?_⟩
    simp only [Ideal.ofBits, Ideal.ieee]
    simp
    rw [← EReal.coe_mul]
    norm_num
  obtain ⟨q, hq, e⟩ := h
  exact ⟨Real.log q, by rw [e, Ideal.log_coe, if_neg (not_le.mpr hq)]⟩

end Cert.Model

end
-- ==== Proof.Payload.lean ====
/-
  What the kernel's body computes on one block, element by element, when every value it reads is a real number:
  each block of intermediate values is the model's function of the corresponding row.
-/
module

public import proofs.«01_k».proof.Proof.Gen.KernelIdeal.Skeleton
public import proofs.«01_k».proof.Proof.Rows
public import proofs.«01_k».proof.Proof.Reals
public import Idealize.ShloMosaic.Lib.Pointwise

@[expose] public section

set_option maxRecDepth 16384

noncomputable section

namespace Cert.Model

open Idealize.ShloMosaic Cert.KernelIdeal Cert.KernelIdeal.Gen

variable (p : Weights) (x : Fin 16384 → Fin 40 → ℝ) (e : Fin 16384 → Fin 10 → ℝ) (a : Fin 16384 → Fin 20 → ℝ)

/-- The block's hidden layer is the model's, row by row. -/
theorem pay6_at (v3 : Vec Ideal S40x16384 .f32) (v10 : Vec Ideal S1x40 .f32) (v13 : Vec Ideal S40x40 .f32)
    (v16 : Vec Ideal S1x40 .f32) (v20 : Vec Ideal S1x40 .f32)
    (h3 : ∀ k l, v3 (ix2 k l) = (x l k : EReal)) (h10 : ∀ k, v10 (ix2 0 k) = (p.w k : EReal))
    (h13 : ∀ k j, v13 (ix2 k j) = (p.W1 k j : EReal)) (h16 : ∀ k, v16 (ix2 0 k) = (p.b1 k : EReal))
    (h20 : ∀ k, v20 (ix2 0 k) = (p.b k : EReal)) (j : Fin 40) (l : Fin 16384) :
    k0_pay6 v3 v10 v13 v16 v13 v20 (ix2 j l) = (hid p (x l) j : EReal) := by
  pointwise [k0_pay6, k0_pay3]
  simp only [h3, h10, h13, h16, h20, ← EReal.coe_mul, up_sum, ← EReal.coe_add, up_max_zero]
  rw [hid_fold]

/-- Ten rows of the encoder's output before the bias: the product of ten rows of the weights with the hidden layer. -/
theorem pay7_at (v3 : Vec Ideal S40x16384 .f32) (v10 : Vec Ideal S1x40 .f32) (v13 : Vec Ideal S40x40 .f32)
    (v16 : Vec Ideal S1x40 .f32) (v20 : Vec Ideal S1x40 .f32) (v30 : Vec Ideal S10x40 .f32)
    (h6 : ∀ j l, k0_pay6 v3 v10 v13 v16 v13 v20 (ix2 j l) = (hid p (x l) j : EReal))
    (h30 : ∀ v j, v30 (ix2 v j) = (p.W2 j ⟨v.val, by omega⟩ : EReal)) (v : Fin 10) (l : Fin 16384) :
    k0_pay7 v3 v10 v13 v16 v13 v20 v30 (ix2 v l)
      = ((∑ k, hid p (x l) k * p.W2 k ⟨v.val, by omega⟩ : ℝ) : EReal) := by
  pointwise [k0_pay7]
  simp only [h6, h30, ← EReal.coe_mul, up_sum]
  refine congrArg _ (Finset.sum_congr rfl fun k _ => mul_comm _ _)

/-- The block's log-variances. -/
theorem pay8_at (v29 : FVec Ideal S40x16384 .f32) (v38 : Vec Ideal S10x40 .f32) (v41 : Vec Ideal S1x10 .f32)
    (h29 : ∀ j l, v29 (ix2 j l) = (hid p (x l) j : EReal))
    (h38 : ∀ v j, v38 (ix2 v j) = (p.W2 j ⟨10 + v.val, by omega⟩ : EReal))
    (h41 : ∀ v, v41 (ix2 0 v) = (p.b2 ⟨10 + v.val, by omega⟩ : EReal)) (v : Fin 10) (l : Fin 16384) :
    k0_pay8 v29 v38 v41 (ix2 v l) = (lv p (x l) v : EReal) := by
  pointwise [k0_pay8]
  simp only [h29, h38, h41, ← EReal.coe_mul, up_sum, ← EReal.coe_add]
  unfold lv enc
  refine congrArg _ (congrArg (· + _) (Finset.sum_congr rfl fun k _ => mul_comm _ _))

/-- The block's samples. -/
theorem pay9_at (v9 : FVec Ideal S10x16384 .f32) (v29 : FVec Ideal S40x16384 .f32) (v32 : FVec Ideal S10x16384 .f32)
    (v33 : Vec Ideal S1x10 .f32) (v38 : Vec Ideal S10x40 .f32) (v41 : Vec Ideal S1x10 .f32)
    (h8 : ∀ v l, k0_pay8 v29 v38 v41 (ix2 v l) = (lv p (x l) v : EReal))
    (h9 : ∀ v l, v9 (ix2 v l) = (e l v : EReal))
    (h32 : ∀ v l, v32 (ix2 v l) = ((∑ k, hid p (x l) k * p.W2 k ⟨v.val, by omega⟩ : ℝ) : EReal))
    (h33 : ∀ v, v33 (ix2 0 v) = (p.b2 ⟨v.val, by omega⟩ : EReal)) (v : Fin 10) (l : Fin 16384) :
    k0_pay9 v9 v29 v32 v33 v38 v41 (ix2 v l) = (smp p (x l) (e l) v : EReal) := by
  pointwise [k0_pay9]
  simp only [h8, h9, h32, h33, half_lit, ← EReal.coe_mul, Ideal.exp_coe, ← EReal.coe_add]
  rfl

/-- The block's decoder outputs. -/
theorem pay10_at (v9 : FVec Ideal S10x16384 .f32) (v29 : FVec Ideal S40x16384 .f32) (v32 : FVec Ideal S10x16384 .f32)
    (v33 : Vec Ideal S1x10 .f32) (v38 : Vec Ideal S10x40 .f32) (v41 : Vec Ideal S1x10 .f32) (v51 : Vec Ideal S10x10 .f32)
    (v53 : Vec Ideal S1x10 .f32) (v60 : Vec Ideal S10x40 .f32) (v62 : Vec Ideal S1x40 .f32)
    (hs : ∀ v l, k0_pay9 v9 v29 v32 v33 v38 v41 (ix2 v l) = (smp p (x l) (e l) v : EReal))
    (h51 : ∀ v k, v51 (ix2 v k) = (p.G1 v k : EReal)) (h53 : ∀ k, v53 (ix2 0 k) = (p.c1 k : EReal))
    (h60 : ∀ k j, v60 (ix2 k j) = (p.G2 k j : EReal)) (h62 : ∀ j, v62 (ix2 0 j) = (p.c2 j : EReal))
    (j : Fin 40) (l : Fin 16384) :
    k0_pay10 v9 v29 v32 v33 v38 v41 v51 v53 v60 v62 (ix2 j l) = (out p (x l) (e l) j : EReal) := by
  pointwise [k0_pay10]
  simp only [hs, h51, h53, h60, h62, ← EReal.coe_mul, up_sum, ← EReal.coe_add, up_max_zero]
  unfold out dec
  simp only [mul_comm]

/-- The mask, repeated for the two coordinates. -/
theorem pay11_at (v7 : FVec Ideal S20x16384 .f32) (h7 : ∀ k l, v7 (ix2 k l) = (a l k : EReal))
    (j : Fin 40) (l : Fin 16384) : k0_pay11 v7 (ix2 j l) = (a l (pt j) : EReal) := by
  pointwise [k0_pay11]
  split
  · rename_i h
    rw [h7]
    exact congrArg _ (congrArg _ (Fin.ext (Nat.mod_eq_of_lt h).symm))
  · rename_i h
    rw [h7]
    refine congrArg _ (congrArg _ (Fin.ext ?_))
    have hj := j.isLt
    simp only [pt]
    omega

/-- The block's total of the masked squared errors. -/
theorem pay12_at (v4 : FVec Ideal S40x16384 .f32) (v7 : FVec Ideal S20x16384 .f32) (v9 : FVec Ideal S10x16384 .f32)
    (v29 : FVec Ideal S40x16384 .f32) (v32 : FVec Ideal S10x16384 .f32)
    (v33 : Vec Ideal S1x10 .f32) (v38 : Vec Ideal S10x40 .f32) (v41 : Vec Ideal S1x10 .f32) (v51 : Vec Ideal S10x10 .f32)
    (v53 : Vec Ideal S1x10 .f32) (v60 : Vec Ideal S10x40 .f32) (v62 : Vec Ideal S1x40 .f32)
    (h4 : ∀ k l, v4 (ix2 k l) = (x l k : EReal))
    (ho : ∀ j l, k0_pay10 v9 v29 v32 v33 v38 v41 v51 v53 v60 v62 (ix2 j l) = (out p (x l) (e l) j : EReal))
    (hm : ∀ j l, k0_pay11 v7 (ix2 j l) = (a l (pt j) : EReal)) :
    k0_pay12 v4 v7 v9 v29 v32 v33 v38 v41 v51 v53 v60 v62 (ix3 0 0 0) = ((∑ l, rowSq p (x l) (e l) (a l) : ℝ) : EReal) := by
  pointwise [k0_pay12]
  simp only [h4, ho, hm, ← EReal.coe_mul, up_sum, ← EReal.coe_sub]
  unfold rowSq
  rw [Finset.sum_comm]

section Accumulate

variable (v4 : FVec Ideal S40x16384 .f32) (v9 : FVec Ideal S10x16384 .f32) (v45 : FVec Ideal S10x16384 .f32)
  (v50 : FVec Ideal S10x16384 .f32) (v66 : FVec Ideal S40x16384 .f32) (v67 : FVec Ideal S40x16384 .f32)
  (v73 : FVec Ideal S1x1x1 .f32) (v111 : Vec Ideal S1x3 .f32)

/-- The accumulator's first entry gains half the block's masked squared error. -/
theorem pay13_at_0 (h73 : v73 (ix3 0 0 0) = ((∑ l, rowSq p (x l) (e l) (a l) : ℝ) : EReal)) (A : ℝ)
    (hA : v111 (ix2 0 0) = (A : EReal)) :
    k0_pay13 v4 v9 v45 v50 v66 v67 v73 v111 (ix2 0 0)
      = ((A + 1 / 2 * ∑ l, rowSq p (x l) (e l) (a l) : ℝ) : EReal) := by
  pointwise [k0_pay13]
  simp only [h73, hA, half_lit, ← EReal.coe_mul, ← EReal.coe_add]

/-- The accumulator's second entry gains half the block's count of masked-in coordinates. -/
theorem pay13_at_1 (h67 : ∀ j l, v67 (ix2 j l) = (a l (pt j) : EReal)) (A : ℝ)
    (hA : v111 (ix2 0 1) = (A : EReal)) :
    k0_pay13 v4 v9 v45 v50 v66 v67 v73 v111 (ix2 0 1) = ((A + 1 / 2 * ∑ l, rowCnt (a l) : ℝ) : EReal) := by
  pointwise [k0_pay13]
  simp only [h67, hA, half_lit, up_sum, ← EReal.coe_mul, ← EReal.coe_add]
  unfold rowCnt
  rw [Finset.sum_comm]

/-- The accumulator's third entry loses the block's masked cross-entropy and half its divergence term. -/
theorem pay13_at_2 (h4 : ∀ k l, v4 (ix2 k l) = (x l k : EReal)) (h9 : ∀ v l, v9 (ix2 v l) = (e l v : EReal))
    (h45 : ∀ v l, v45 (ix2 v l) = (lv p (x l) v : EReal)) (h50 : ∀ v l, v50 (ix2 v l) = (smp p (x l) (e l) v : EReal))
    (h66 : ∀ j l, v66 (ix2 j l) = (out p (x l) (e l) j : EReal)) (h67 : ∀ j l, v67 (ix2 j l) = (a l (pt j) : EReal))
    (A : ℝ) (hA : v111 (ix2 0 2) = (A : EReal)) :
    k0_pay13 v4 v9 v45 v50 v66 v67 v73 v111 (ix2 0 2)
      = ((A + (-(∑ l, rowXent p (x l) (e l) (a l)) - 1 / 2 * ∑ l, rowDiv p (x l) (e l)) : ℝ) : EReal) := by
  pointwise [k0_pay13, Ideal.absf_def]
  simp only [h4, h9, h45, h50, h66, h67, hA, half_lit, up_max_zero, up_max, up_zero_sub, ← EReal.coe_neg, Ideal.exp_coe,
    up_log1p_exp, up_sum, ← EReal.coe_mul, ← EReal.coe_sub, ← EReal.coe_add]
  unfold rowXent rowDiv xent
  rw [Finset.sum_comm, Finset.sum_comm (s := (Finset.univ : Finset (Fin 10)))]

end Accumulate

/-- The accumulator starts at zero. -/
theorem pay2_at (i : Fin 3) : k0_pay2 (F := Ideal) (ix2 0 i) = ((0 : ℝ) : EReal) := by
  pointwise [k0_pay2]
  rfl

/-- The result from the accumulator's three entries. -/
theorem pay1_at (v : Vec Ideal S1x3 .f32) (sq cnt xe dv : ℝ) (h0 : v (ix2 0 0) = ((1 / 2 * sq : ℝ) : EReal))
    (h1 : v (ix2 0 1) = ((1 / 2 * cnt : ℝ) : EReal)) (h2 : v (ix2 0 2) = ((-xe - 1 / 2 * dv : ℝ) : EReal)) :
    k0_pay1 v (ix2 0 0) = (loss sq cnt xe dv : EReal) := by
  have hpos : max (1 / 2 * cnt) 1 ≠ 0 := ne_of_gt (lt_of_lt_of_le one_pos (le_max_right _ _))
  have hexp : ∀ r : ℝ, (Scalar.exp (F := Ideal) (φ := .f32) (r : EReal) : EReal) = (Real.exp r : EReal) := fun _ => rfl
  pointwise [k0_pay1]
  simp only [h0, h1, h2, ← EReal.coe_one, up_max, up_div _ hpos, up_zero_sub, rows_inv_lit, hexp, ← EReal.coe_mul, ← EReal.coe_add]
  unfold loss
  congr 2
  ring

end Cert.Model

end
-- ==== Proof.Block.lean ====
/-
  One grid point, end to end: what the accumulator holds after a block of 16384 rows, from what it held before and the
  blocks the point loads. `Reads` says that the loaded blocks hold the model's real numbers; the three theorems at the end
  say that each entry of the accumulator then gains the block's share.
-/
module

public import proofs.«01_k».proof.Proof.Payload

@[expose] public section

set_option maxRecDepth 16384

noncomputable section

namespace Cert.Model

open Idealize.ShloMosaic Cert.KernelIdeal Cert.KernelIdeal.Gen

section Terms

variable (x0 : Vec Ideal S40x16384 .f32) (x1 : Vec Ideal S20x16384 .i8) (x2 : Vec Ideal S10x16384 .f32)
  (x3 : Vec Ideal S1x40 .f32) (x4 : Vec Ideal S1x40 .f32) (x5 : Vec Ideal S40x40 .f32) (x6 : Vec Ideal S1x40 .f32)
  (x7 : Vec Ideal S20x40 .f32) (x8 : Vec Ideal S1x20 .f32) (x9 : Vec Ideal S10x10 .f32) (x10 : Vec Ideal S1x10 .f32)
  (x11 : Vec Ideal S10x40 .f32) (x12 : Vec Ideal S1x40 .f32)

/-- The first ten rows of the encoder's second layer: those of the means. -/
def wLo : Vec Ideal S10x40 .f32 := View.ld x7 (Rect.unit ![0, 0] ![10, 40] inb_S20x40_S10x40_0_0)
/-- The last ten: those of the log-variances. -/
def wHi : Vec Ideal S10x40 .f32 := View.ld x7 (Rect.unit ![10, 0] ![10, 40] inb_S20x40_S10x40_10_0)
/-- The bias of the means. -/
def bLo : Vec Ideal S1x10 .f32 := View.ld x8 (Rect.unit ![0, 0] ![1, 10] inb_S1x20_S1x10_0_0)
/-- The bias of the log-variances. -/
def bHi : Vec Ideal S1x10 .f32 := View.ld x8 (Rect.unit ![0, 10] ![1, 10] inb_S1x20_S1x10_0_10)

/-- The accumulator after a point, from the blocks it loads and the accumulator before it. -/
def step (acc : Vec Ideal S1x3 .f32) : Vec Ideal S1x3 .f32 :=
  k0_pay13 (k0_pay3 x0) (k0_pay5 x2) (k0_pay8 (k0_pay6 x0 x3 x5 x6 x5 x4) (wHi x7) (bHi x8))
    (k0_pay9 (k0_pay5 x2) (k0_pay6 x0 x3 x5 x6 x5 x4) (k0_pay7 x0 x3 x5 x6 x5 x4 (wLo x7)) (bLo x8) (wHi x7) (bHi x8))
    (k0_pay10 (k0_pay5 x2) (k0_pay6 x0 x3 x5 x6 x5 x4) (k0_pay7 x0 x3 x5 x6 x5 x4 (wLo x7)) (bLo x8) (wHi x7) (bHi x8)
      x9 x10 x11 x12)
    (k0_pay11 (k0_pay4 x1))
    (k0_pay12 (k0_pay3 x0) (k0_pay4 x1) (k0_pay5 x2) (k0_pay6 x0 x3 x5 x6 x5 x4)
      (k0_pay7 x0 x3 x5 x6 x5 x4 (wLo x7)) (bLo x8) (wHi x7) (bHi x8) x9 x10 x11 x12)
    acc

end Terms

/-- A bit as a real number, zero or one. -/
def bit (b : BitVec 1) : ℝ := (b.toNat : ℝ)

/-- The signed reading of a bit widened to eight bits is the bit's number. -/
theorem bit_wide (b : BitVec 1) : (((b.setWidth 8).toInt : ℝ) : EReal) = (bit b : EReal) := by
  have h : ∀ b : BitVec 1, (b.setWidth 8).toInt = (b.toNat : Int) := by decide
  rw [h b]; unfold bit; norm_cast

/-- The blocks a point loads hold the model's numbers: the rows `x`, the noise `e`, the mask's bits `a`, the weights `p`. -/
structure Reads (p : Weights) (x : Fin 16384 → Fin 40 → ℝ) (e : Fin 16384 → Fin 10 → ℝ)
    (a : Fin 16384 → Fin 20 → BitVec 1)
    (x0 : Vec Ideal S40x16384 .f32) (x1 : Vec Ideal S20x16384 .i8) (x2 : Vec Ideal S10x16384 .f32)
    (x3 : Vec Ideal S1x40 .f32) (x4 : Vec Ideal S1x40 .f32) (x5 : Vec Ideal S40x40 .f32) (x6 : Vec Ideal S1x40 .f32)
    (x7 : Vec Ideal S20x40 .f32) (x8 : Vec Ideal S1x20 .f32) (x9 : Vec Ideal S10x10 .f32) (x10 : Vec Ideal S1x10 .f32)
    (x11 : Vec Ideal S10x40 .f32) (x12 : Vec Ideal S1x40 .f32) : Prop where
  h0 : ∀ k l, x0 (ix2 k l) = (x l k : EReal)
  h1 : ∀ k l, x1 (ix2 k l) = (a l k).setWidth 8
  h2 : ∀ v l, x2 (ix2 v l) = (e l v : EReal)
  h3 : ∀ k, x3 (ix2 0 k) = (p.w k : EReal)
  h4 : ∀ k, x4 (ix2 0 k) = (p.b k : EReal)
  h5 : ∀ k j, x5 (ix2 k j) = (p.W1 k j : EReal)
  h6 : ∀ j, x6 (ix2 0 j) = (p.b1 j : EReal)
  h7 : ∀ v j, x7 (ix2 v j) = (p.W2 j v : EReal)
  h8 : ∀ v, x8 (ix2 0 v) = (p.b2 v : EReal)
  h9 : ∀ v k, x9 (ix2 v k) = (p.G1 v k : EReal)
  h10 : ∀ k, x10 (ix2 0 k) = (p.c1 k : EReal)
  h11 : ∀ k j, x11 (ix2 k j) = (p.G2 k j : EReal)
  h12 : ∀ j, x12 (ix2 0 j) = (p.c2 j : EReal)

section Steps

variable {p : Weights} {x : Fin 16384 → Fin 40 → ℝ} {e : Fin 16384 → Fin 10 → ℝ} {a : Fin 16384 → Fin 20 → BitVec 1}
  {x0 : Vec Ideal S40x16384 .f32} {x1 : Vec Ideal S20x16384 .i8} {x2 : Vec Ideal S10x16384 .f32}
  {x3 : Vec Ideal S1x40 .f32} {x4 : Vec Ideal S1x40 .f32} {x5 : Vec Ideal S40x40 .f32} {x6 : Vec Ideal S1x40 .f32}
  {x7 : Vec Ideal S20x40 .f32} {x8 : Vec Ideal S1x20 .f32} {x9 : Vec Ideal S10x10 .f32} {x10 : Vec Ideal S1x10 .f32}
  {x11 : Vec Ideal S10x40 .f32} {x12 : Vec Ideal S1x40 .f32}
  (R : Reads p x e a x0 x1 x2 x3 x4 x5 x6 x7 x8 x9 x10 x11 x12)
include R

/-- The loaded rows, transposed. -/
theorem pay3_at (k : Fin 40) (l : Fin 16384) : k0_pay3 x0 (ix2 k l) = (x l k : EReal) := by
  pointwise [k0_pay3]
  exact R.h0 k l

/-- The loaded mask as numbers, zero or one. -/
theorem pay4_at (k : Fin 20) (l : Fin 16384) : k0_pay4 (F := Ideal) x1 (ix2 k l) = ((bit (a l k) : ℝ) : EReal) := by
  pointwise [k0_pay4]
  rw [R.h1]
  exact bit_wide _

/-- The loaded noise, transposed. -/
theorem pay5_at (v : Fin 10) (l : Fin 16384) : k0_pay5 x2 (ix2 v l) = (e l v : EReal) := by
  pointwise [k0_pay5]
  exact R.h2 v l

/-- The means' half of the encoder's second layer. -/
theorem wLo_at (v : Fin 10) (j : Fin 40) : wLo x7 (ix2 v j) = (p.W2 j ⟨v.val, by omega⟩ : EReal) := by
  unfold wLo
  pointwise
  exact R.h7 _ _

/-- The log-variances' half of it. -/
theorem wHi_at (v : Fin 10) (j : Fin 40) : wHi x7 (ix2 v j) = (p.W2 j ⟨10 + v.val, by omega⟩ : EReal) := by
  unfold wHi
  pointwise
  exact R.h7 _ _

/-- The means' half of the encoder's second bias. -/
theorem bLo_at (v : Fin 10) : bLo x8 (ix2 0 v) = (p.b2 ⟨v.val, by omega⟩ : EReal) := by
  unfold bLo
  pointwise
  exact R.h8 _

/-- The log-variances' half of it. -/
theorem bHi_at (v : Fin 10) : bHi x8 (ix2 0 v) = (p.b2 ⟨10 + v.val, by omega⟩ : EReal) := by
  unfold bHi
  pointwise
  exact R.h8 _

/-- The block's hidden layer. -/
theorem hid_at (j : Fin 40) (l : Fin 16384) : k0_pay6 x0 x3 x5 x6 x5 x4 (ix2 j l) = (hid p (x l) j : EReal) :=
  pay6_at p x x0 x3 x5 x6 x4 R.h0 R.h3 R.h5 R.h6 R.h4 j l

/-- The block's log-variances. -/
theorem lv_at (v : Fin 10) (l : Fin 16384) :
    k0_pay8 (k0_pay6 x0 x3 x5 x6 x5 x4) (wHi x7) (bHi x8) (ix2 v l) = (lv p (x l) v : EReal) :=
  pay8_at p x _ _ _ (hid_at R) (wHi_at R) (bHi_at R) v l

/-- The block's samples. -/
theorem smp_at (v : Fin 10) (l : Fin 16384) :
    k0_pay9 (k0_pay5 x2) (k0_pay6 x0 x3 x5 x6 x5 x4) (k0_pay7 x0 x3 x5 x6 x5 x4 (wLo x7)) (bLo x8) (wHi x7) (bHi x8)
      (ix2 v l) = (smp p (x l) (e l) v : EReal) :=
  pay9_at p x e _ _ _ _ _ _ (lv_at R) (pay5_at R) (pay7_at p x _ _ _ _ _ _ (hid_at R) (wLo_at R)) (bLo_at R) v l

/-- The block's decoder outputs. -/
theorem out_at (j : Fin 40) (l : Fin 16384) :
    k0_pay10 (k0_pay5 x2) (k0_pay6 x0 x3 x5 x6 x5 x4) (k0_pay7 x0 x3 x5 x6 x5 x4 (wLo x7)) (bLo x8) (wHi x7) (bHi x8)
      x9 x10 x11 x12 (ix2 j l) = (out p (x l) (e l) j : EReal) :=
  pay10_at p x e _ _ _ _ _ _ _ _ _ _ (smp_at R) R.h9 R.h10 R.h11 R.h12 j l

/-- The block's mask. -/
theorem mask_at (j : Fin 40) (l : Fin 16384) :
    k0_pay11 (F := Ideal) (k0_pay4 x1) (ix2 j l) = ((bit (a l (pt j)) : ℝ) : EReal) :=
  pay11_at (fun l k => bit (a l k)) _ (pay4_at R) j l

variable {acc : Vec Ideal S1x3 .f32}

/-- The accumulator's first entry gains half the block's masked squared error. -/
theorem step_at_0 (A : ℝ) (hA : acc (ix2 0 0) = (A : EReal)) :
    step x0 x1 x2 x3 x4 x5 x6 x7 x8 x9 x10 x11 x12 acc (ix2 0 0)
      = ((A + 1 / 2 * ∑ l, rowSq p (x l) (e l) (fun k => bit (a l k)) : ℝ) : EReal) :=
  pay13_at_0 p x e (fun l k => bit (a l k)) _ _ _ _ _ _ _ _
    (pay12_at p x e _ _ _ _ _ _ _ _ _ _ _ _ _ (pay3_at R) (out_at R) (mask_at R)) A hA

/-- Its second entry gains half the block's count of masked-in coordinates. -/
theorem step_at_1 (A : ℝ) (hA : acc (ix2 0 1) = (A : EReal)) :
    step x0 x1 x2 x3 x4 x5 x6 x7 x8 x9 x10 x11 x12 acc (ix2 0 1)
      = ((A + 1 / 2 * ∑ l, rowCnt (fun k => bit (a l k)) : ℝ) : EReal) :=
  pay13_at_1 (fun l k => bit (a l k)) _ _ _ _ _ _ _ _ (mask_at R) A hA

/-- Its third entry loses the block's masked cross-entropy and half its divergence term. -/
theorem step_at_2 (A : ℝ) (hA : acc (ix2 0 2) = (A : EReal)) :
    step x0 x1 x2 x3 x4 x5 x6 x7 x8 x9 x10 x11 x12 acc (ix2 0 2)
      = ((A + (-(∑ l, rowXent p (x l) (e l) (fun k => bit (a l k))) - 1 / 2 * ∑ l, rowDiv p (x l) (e l)) : ℝ) : EReal) :=
  pay13_at_2 p x e (fun l k => bit (a l k)) _ _ _ _ _ _ _ _ (pay3_at R) (pay5_at R) (lv_at R) (smp_at R) (out_at R)
    (mask_at R) A hA

end Steps

end Cert.Model

end
-- ==== Proof.Args.lean ====
/-
  The arguments as real numbers: `Holds` says that the twelve floating-point argument arrays hold the images of the
  model's real numbers. The mask is an array of bits and needs nothing.
-/
module

public import proofs.«01_k».proof.Proof.Gen.KernelIdeal
public import proofs.«01_k».proof.Proof.Rows
public import Idealize.ShloMosaic.Lib.Pointwise

@[expose] public section

noncomputable section

namespace Cert.Model

open Idealize.ShloMosaic Cert.KernelIdeal

/-- The arrays `xy, eps, nan_w, nan_b, W1, b1, W2, b2, G1, gb1, G2, gb2` hold the rows `X`, the noise `E` and the
    weights `p`. -/
structure Holds (p : Weights) (X : Fin 32768 → Fin 40 → ℝ) (E : Fin 32768 → Fin 10 → ℝ)
    (a0 : Vec Ideal S32768x40 .f32) (a2 : Vec Ideal S32768x10 .f32) (a3 : Vec Ideal S40 .f32) (a4 : Vec Ideal S40 .f32)
    (a5 : Vec Ideal S40x40 .f32) (a6 : Vec Ideal S40 .f32) (a7 : Vec Ideal S40x20 .f32) (a8 : Vec Ideal S20 .f32)
    (a9 : Vec Ideal S10x10 .f32) (a10 : Vec Ideal S10 .f32) (a11 : Vec Ideal S10x40 .f32) (a12 : Vec Ideal S40 .f32) :
    Prop where
  h0 : ∀ r k, a0 (ix2 r k) = (X r k : EReal)
  h2 : ∀ r v, a2 (ix2 r v) = (E r v : EReal)
  h3 : ∀ k, a3 (ix1 k) = (p.w k : EReal)
  h4 : ∀ k, a4 (ix1 k) = (p.b k : EReal)
  h5 : ∀ k j, a5 (ix2 k j) = (p.W1 k j : EReal)
  h6 : ∀ j, a6 (ix1 j) = (p.b1 j : EReal)
  h7 : ∀ j v, a7 (ix2 j v) = (p.W2 j v : EReal)
  h8 : ∀ v, a8 (ix1 v) = (p.b2 v : EReal)
  h9 : ∀ v k, a9 (ix2 v k) = (p.G1 v k : EReal)
  h10 : ∀ k, a10 (ix1 k) = (p.c1 k : EReal)
  h11 : ∀ k j, a11 (ix2 k j) = (p.G2 k j : EReal)
  h12 : ∀ j, a12 (ix1 j) = (p.c2 j : EReal)

/-- The mask's rows, as real numbers zero and one. -/
def bits (a1 : IVec S32768x20 1) (r : Fin 32768) (k : Fin 20) : ℝ := ((a1 (ix2 r k)).toNat : ℝ)

end Cert.Model

end
-- ==== Proof.Blocks.lean ====
/-
  What the kernel's region loads: each array the host prepares, as a function of the arguments, and each window's block at
  a grid point, entry by entry. Point `t` handles rows `16384 t` to `16384 t + 16383`.
-/
module

public import proofs.«01_k».proof.Proof.Gen.KernelIdeal.Frame
public import proofs.«01_k».proof.Proof.Block
public import proofs.«01_k».proof.Proof.Args
public import Idealize.ShloMosaic.Lib.Pipeline.ValueKit

@[expose] public section

set_option maxRecDepth 16384

noncomputable section

namespace Cert.Model

open Idealize.ShloMosaic Idealize.ShloMosaic.TcCoe Idealize.SL.Sem Cert.KernelIdeal Cert.KernelIdeal.Gen

variable (m : (ℓ : Loc nD τ sig) → Buf (Elt Ideal) ℓ) (c : Dev nD)

/-! ### The arrays the host prepares -/

/-- The rows, transposed. -/
theorem V_v0 (k : Fin 40) (r : Fin 32768) : (V m c main_v0 : Vec Ideal S40x32768 .f32) (ix2 k r)
    = (m ((c : Thread nD τ).loc main_arg0) : Vec Ideal S32768x40 .f32) (ix2 r k) := by
  show StableHlo.after hostOps0 _ (Proc.devRef .tc main_v0) _ = _
  after_results
  pointwise

/-- The mask, as bytes, transposed. -/
theorem V_v3 (k : Fin 20) (r : Fin 32768) : (V m c main_v3 : Vec Ideal S20x32768 .i8) (ix2 k r)
    = ((m ((c : Thread nD τ).loc main_arg1) : IVec S32768x20 1) (ix2 r k)).setWidth 8 := by
  show StableHlo.after hostOps0 _ (Proc.devRef .tc main_v3) _ = _
  after_results
  pointwise
  rfl

/-- The noise, transposed. -/
theorem V_v4 (v : Fin 10) (r : Fin 32768) : (V m c main_v4 : Vec Ideal S10x32768 .f32) (ix2 v r)
    = (m ((c : Thread nD τ).loc main_arg2) : Vec Ideal S32768x10 .f32) (ix2 r v) := by
  show StableHlo.after hostOps0 _ (Proc.devRef .tc main_v4) _ = _
  after_results
  pointwise

/-- The input scale, as one row. -/
theorem V_v5 (k : Fin 40) : (V m c main_v5 : Vec Ideal S1x40 .f32) (ix2 0 k)
    = (m ((c : Thread nD τ).loc main_arg3) : Vec Ideal S40 .f32) (ix1 k) := by
  show StableHlo.after hostOps0 _ (Proc.devRef .tc main_v5) _ = _
  after_results
  pointwise

/-- The input shift, as one row. -/
theorem V_v6 (k : Fin 40) : (V m c main_v6 : Vec Ideal S1x40 .f32) (ix2 0 k)
    = (m ((c : Thread nD τ).loc main_arg4) : Vec Ideal S40 .f32) (ix1 k) := by
  show StableHlo.after hostOps0 _ (Proc.devRef .tc main_v6) _ = _
  after_results
  pointwise

/-- The encoder's first bias, as one row. -/
theorem V_v7 (k : Fin 40) : (V m c main_v7 : Vec Ideal S1x40 .f32) (ix2 0 k)
    = (m ((c : Thread nD τ).loc main_arg6) : Vec Ideal S40 .f32) (ix1 k) := by
  show StableHlo.after hostOps0 _ (Proc.devRef .tc main_v7) _ = _
  after_results
  pointwise

/-- The encoder's second layer, transposed. -/
theorem V_v8 (v : Fin 20) (j : Fin 40) : (V m c main_v8 : Vec Ideal S20x40 .f32) (ix2 v j)
    = (m ((c : Thread nD τ).loc main_arg7) : Vec Ideal S40x20 .f32) (ix2 j v) := by
  show StableHlo.after hostOps0 _ (Proc.devRef .tc main_v8) _ = _
  after_results
  pointwise

/-- The encoder's second bias, as one row. -/
theorem V_v9 (v : Fin 20) : (V m c main_v9 : Vec Ideal S1x20 .f32) (ix2 0 v)
    = (m ((c : Thread nD τ).loc main_arg8) : Vec Ideal S20 .f32) (ix1 v) := by
  show StableHlo.after hostOps0 _ (Proc.devRef .tc main_v9) _ = _
  after_results
  pointwise

/-- The decoder's first bias, as one row. -/
theorem V_v10 (k : Fin 10) : (V m c main_v10 : Vec Ideal S1x10 .f32) (ix2 0 k)
    = (m ((c : Thread nD τ).loc main_arg10) : Vec Ideal S10 .f32) (ix1 k) := by
  show StableHlo.after hostOps0 _ (Proc.devRef .tc main_v10) _ = _
  after_results
  pointwise

/-- The decoder's second bias, as one row. -/
theorem V_v11 (j : Fin 40) : (V m c main_v11 : Vec Ideal S1x40 .f32) (ix2 0 j)
    = (m ((c : Thread nD τ).loc main_arg12) : Vec Ideal S40 .f32) (ix1 j) := by
  show StableHlo.after hostOps0 _ (Proc.devRef .tc main_v11) _ = _
  after_results
  pointwise

/-! ### The blocks at a point -/

variable (t : Fin cfg0.N)

/-- Row `l` of point `t`'s block, among all rows. -/
def row (t : Fin cfg0.N) (l : Fin 16384) : Fin 32768 :=
  ⟨t.val * 16384 + l.val, by have := t.isLt; have := l.isLt; have : cfg0.N = 2 := N_0; omega⟩

/-- The input moves with the point. -/
theorem idx0 : ∀ t : Fin cfg0.N, win0_0.index t = ![0, t.val] := (by decide +kernel : ∀ t : Fin grid0.N, _)
/-- The mask moves with the point. -/
theorem idx1 : ∀ t : Fin cfg0.N, win0_1.index t = ![0, t.val] := (by decide +kernel : ∀ t : Fin grid0.N, _)
/-- The noise moves with the point. -/
theorem idx2 : ∀ t : Fin cfg0.N, win0_2.index t = ![0, t.val] := (by decide +kernel : ∀ t : Fin grid0.N, _)
/-- The input scale stays. -/
theorem idx3 : ∀ t : Fin cfg0.N, win0_3.index t = ![0, 0] := (by decide +kernel : ∀ t : Fin grid0.N, _)
/-- The input shift stays. -/
theorem idx4 : ∀ t : Fin cfg0.N, win0_4.index t = ![0, 0] := (by decide +kernel : ∀ t : Fin grid0.N, _)
/-- The encoder's first layer stays. -/
theorem idx5 : ∀ t : Fin cfg0.N, win0_5.index t = ![0, 0] := (by decide +kernel : ∀ t : Fin grid0.N, _)
/-- The encoder's first bias stays. -/
theorem idx6 : ∀ t : Fin cfg0.N, win0_6.index t = ![0, 0] := (by decide +kernel : ∀ t : Fin grid0.N, _)
/-- The encoder's second layer stays. -/
theorem idx7 : ∀ t : Fin cfg0.N, win0_7.index t = ![0, 0] := (by decide +kernel : ∀ t : Fin grid0.N, _)
/-- The encoder's second bias stays. -/
theorem idx8 : ∀ t : Fin cfg0.N, win0_8.index t = ![0, 0] := (by decide +kernel : ∀ t : Fin grid0.N, _)
/-- The decoder's first layer stays. -/
theorem idx9 : ∀ t : Fin cfg0.N, win0_9.index t = ![0, 0] := (by decide +kernel : ∀ t : Fin grid0.N, _)
/-- The decoder's first bias stays. -/
theorem idx10 : ∀ t : Fin cfg0.N, win0_10.index t = ![0, 0] := (by decide +kernel : ∀ t : Fin grid0.N, _)
/-- The decoder's second layer stays. -/
theorem idx11 : ∀ t : Fin cfg0.N, win0_11.index t = ![0, 0] := (by decide +kernel : ∀ t : Fin grid0.N, _)
/-- The decoder's second bias stays. -/
theorem idx12 : ∀ t : Fin cfg0.N, win0_12.index t = ![0, 0] := (by decide +kernel : ∀ t : Fin grid0.N, _)

/-- A point's block of the input: its rows, transposed. -/
theorem blk0 (k : Fin 40) (l : Fin 16384) : (iblk m c 0 t : Vec Ideal S40x16384 .f32) (ix2 k l)
    = (m ((c : Thread nD τ).loc main_arg0) : Vec Ideal S32768x40 .f32) (ix2 (row t l) k) := by
  refine Eq.trans ?_ (V_v0 m c k (row t l))
  show V m c main_v0 _ = _
  congr 1
  unfold row
  blk_ext [idx0]

/-- A point's block of the mask: its rows as bytes, transposed. -/
theorem blk1 (k : Fin 20) (l : Fin 16384) : (iblk m c 1 t : Vec Ideal S20x16384 .i8) (ix2 k l)
    = ((m ((c : Thread nD τ).loc main_arg1) : IVec S32768x20 1) (ix2 (row t l) k)).setWidth 8 := by
  refine Eq.trans ?_ (V_v3 m c k (row t l))
  show V m c main_v3 _ = _
  congr 1
  unfold row
  blk_ext [idx1]

/-- A point's block of the noise: its rows, transposed. -/
theorem blk2 (v : Fin 10) (l : Fin 16384) : (iblk m c 2 t : Vec Ideal S10x16384 .f32) (ix2 v l)
    = (m ((c : Thread nD τ).loc main_arg2) : Vec Ideal S32768x10 .f32) (ix2 (row t l) v) := by
  refine Eq.trans ?_ (V_v4 m c v (row t l))
  show V m c main_v4 _ = _
  congr 1
  unfold row
  blk_ext [idx2]

/-- Every point loads the whole input scale. -/
theorem blk3 (k : Fin 40) : (iblk m c 3 t : Vec Ideal S1x40 .f32) (ix2 0 k)
    = (m ((c : Thread nD τ).loc main_arg3) : Vec Ideal S40 .f32) (ix1 k) := by
  refine Eq.trans ?_ (V_v5 m c k)
  show V m c main_v5 _ = _
  congr 1
  blk_ext [idx3]

/-- Every point loads the whole input shift. -/
theorem blk4 (k : Fin 40) : (iblk m c 4 t : Vec Ideal S1x40 .f32) (ix2 0 k)
    = (m ((c : Thread nD τ).loc main_arg4) : Vec Ideal S40 .f32) (ix1 k) := by
  refine Eq.trans ?_ (V_v6 m c k)
  show V m c main_v6 _ = _
  congr 1
  blk_ext [idx4]

/-- Every point loads the encoder's whole first layer. -/
theorem blk5 (k j : Fin 40) : (iblk m c 5 t : Vec Ideal S40x40 .f32) (ix2 k j)
    = (m ((c : Thread nD τ).loc main_arg5) : Vec Ideal S40x40 .f32) (ix2 k j) := by
  refine Eq.trans ?_ (congrFun (V_main_arg5 m c) (ix2 k j))
  show V m c main_arg5 _ = _
  congr 1
  blk_ext [idx5]

/-- Every point loads the encoder's whole first bias. -/
theorem blk6 (k : Fin 40) : (iblk m c 6 t : Vec Ideal S1x40 .f32) (ix2 0 k)
    = (m ((c : Thread nD τ).loc main_arg6) : Vec Ideal S40 .f32) (ix1 k) := by
  refine Eq.trans ?_ (V_v7 m c k)
  show V m c main_v7 _ = _
  congr 1
  blk_ext [idx6]

/-- Every point loads the encoder's whole second layer, transposed. -/
theorem blk7 (v : Fin 20) (j : Fin 40) : (iblk m c 7 t : Vec Ideal S20x40 .f32) (ix2 v j)
    = (m ((c : Thread nD τ).loc main_arg7) : Vec Ideal S40x20 .f32) (ix2 j v) := by
  refine Eq.trans ?_ (V_v8 m c v j)
  show V m c main_v8 _ = _
  congr 1
  blk_ext [idx7]

/-- Every point loads the encoder's whole second bias. -/
theorem blk8 (v : Fin 20) : (iblk m c 8 t : Vec Ideal S1x20 .f32) (ix2 0 v)
    = (m ((c : Thread nD τ).loc main_arg8) : Vec Ideal S20 .f32) (ix1 v) := by
  refine Eq.trans ?_ (V_v9 m c v)
  show V m c main_v9 _ = _
  congr 1
  blk_ext [idx8]

/-- Every point loads the decoder's whole first layer. -/
theorem blk9 (v k : Fin 10) : (iblk m c 9 t : Vec Ideal S10x10 .f32) (ix2 v k)
    = (m ((c : Thread nD τ).loc main_arg9) : Vec Ideal S10x10 .f32) (ix2 v k) := by
  refine Eq.trans ?_ (congrFun (V_main_arg9 m c) (ix2 v k))
  show V m c main_arg9 _ = _
  congr 1
  blk_ext [idx9]

/-- Every point loads the decoder's whole first bias. -/
theorem blk10 (k : Fin 10) : (iblk m c 10 t : Vec Ideal S1x10 .f32) (ix2 0 k)
    = (m ((c : Thread nD τ).loc main_arg10) : Vec Ideal S10 .f32) (ix1 k) := by
  refine Eq.trans ?_ (V_v10 m c k)
  show V m c main_v10 _ = _
  congr 1
  blk_ext [idx10]

/-- Every point loads the decoder's whole second layer. -/
theorem blk11 (k : Fin 10) (j : Fin 40) : (iblk m c 11 t : Vec Ideal S10x40 .f32) (ix2 k j)
    = (m ((c : Thread nD τ).loc main_arg11) : Vec Ideal S10x40 .f32) (ix2 k j) := by
  refine Eq.trans ?_ (congrFun (V_main_arg11 m c) (ix2 k j))
  show V m c main_arg11 _ = _
  congr 1
  blk_ext [idx11]

/-- Every point loads the decoder's whole second bias. -/
theorem blk12 (j : Fin 40) : (iblk m c 12 t : Vec Ideal S1x40 .f32) (ix2 0 j)
    = (m ((c : Thread nD τ).loc main_arg12) : Vec Ideal S40 .f32) (ix1 j) := by
  refine Eq.trans ?_ (V_v11 m c j)
  show V m c main_v11 _ = _
  congr 1
  blk_ext [idx12]

/-- The arguments the launch left in memory hold the model's numbers. -/
def HoldsAt (p : Weights) (X : Fin 32768 → Fin 40 → ℝ) (E : Fin 32768 → Fin 10 → ℝ) : Prop :=
  Holds p X E (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

variable {m c} {p : Weights} {X : Fin 32768 → Fin 40 → ℝ} {E : Fin 32768 → Fin 10 → ℝ}

/-- The blocks point `t` loads hold the model's numbers for its rows. -/
theorem reads (H : HoldsAt m c p X E) :
    Reads p (fun l => X (row t l)) (fun l => E (row t l))
      (fun l k => (m ((c : Thread nD τ).loc main_arg1) : IVec S32768x20 1) (ix2 (row t l) k))
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) where
  h0 k l := (blk0 m c t k l).trans (H.h0 _ _)
  h1 k l := blk1 m c t k l
  h2 v l := (blk2 m c t v l).trans (H.h2 _ _)
  h3 k := (blk3 m c t k).trans (H.h3 _)
  h4 k := (blk4 m c t k).trans (H.h4 _)
  h5 k j := (blk5 m c t k j).trans (H.h5 _ _)
  h6 j := (blk6 m c t j).trans (H.h6 _)
  h7 v j := (blk7 m c t v j).trans (H.h7 _ _)
  h8 v := (blk8 m c t v).trans (H.h8 _)
  h9 v k := (blk9 m c t v k).trans (H.h9 _ _)
  h10 k := (blk10 m c t k).trans (H.h10 _)
  h11 k j := (blk11 m c t k j).trans (H.h11 _ _)
  h12 j := (blk12 m c t j).trans (H.h12 _)

end Cert.Model

end
-- ==== Proof.KernelRun.lean ====
/-
  The kernel's run: after it the result is the loss of the four totals over all 32768 rows. First the accumulator after
  the first point and the one written result after the second; then the array of the result, which only the second point
  writes; then the value the last host line leaves.
-/
module

public import proofs.«01_k».proof.Proof.Blocks

@[expose] public section

set_option maxRecDepth 16384

noncomputable section

namespace Cert.Model

open Idealize.ShloMosaic Idealize.ShloMosaic.TcCoe Idealize.SL.Sem Cert.KernelIdeal Cert.KernelIdeal.Gen

variable (m : (ℓ : Loc nD τ sig) → Buf (Elt Ideal) ℓ) (c : Dev nD)

/-- The accumulator after point `t`, from the accumulator before it. -/
def stepAt (t : Fin cfg0.N) (acc : Vec Ideal S1x3 .f32) : Vec Ideal S1x3 .f32 :=
  step (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) acc

/-- The first point starts the accumulator at zero and takes one step. -/
theorem acc_first (t : Fin cfg0.N) (h0 : t.val % 2 = 0) (h1 : ¬t.val % 2 = 1) :
    (outsAt0 m c t.val t.isLt).2 = stepAt m c t (k0_pay2 (F := Ideal)) := by
  rw [outsAt0_A m c t h0 h1]
  frame_out
  rfl

/-- The second takes one more step and writes the result. -/
theorem out_last (t : Fin cfg0.N) (h0 : ¬t.val % 2 = 0) (h1 : t.val % 2 = 1) :
    (outsAt0 m c t.val t.isLt).1
      = k0_pay1 (stepAt m c t (outsAt0 m c (t.val - 1) (Nat.lt_of_le_of_lt (Nat.sub_le _ _) t.isLt)).2) := by
  rw [outsAt0_B m c t h0 h1]
  frame_out
  exact congrArg (fun z => k0_pay1 (stepAt m c t z)) (Memref.IsWhole.read_unread (m := Memref.whole cc0_scratch0) _ _)

/-- The result's array after the region: what the second point wrote. -/
theorem out13 : (dats m 0 c).arrAt 13 cfg0.N = (outsAt0 m c t0_1.val t0_1.isLt).1 := by
  refine (dats m 0 c).arrAt_eq_of_after_last 13 t0_1 (by decide +kernel) _ (fun j => ?_)
  rw [after0_13]
  show (outsAt0 m c t0_1.val t0_1.isLt).1 _ = (outsAt0 m c t0_1.val t0_1.isLt).1 _
  refine congrArg _ ?_
  funext a
  match a with
  | ⟨0, _⟩ => exact Subsingleton.elim (α := Fin 1) _ _
  | ⟨1, _⟩ => exact Subsingleton.elim (α := Fin 1) _ _

/-- Two blocks of 16384 rows are all the rows. -/
theorem two_blocks (f : Fin 32768 → ℝ) : (∑ l, f (row t0_0 l)) + (∑ l, f (row t0_1 l)) = ∑ r, f r := by
  have h := Fin.sum_mul_add_fin 2 16384 f
  rw [Fin.sum_univ_two] at h
  exact h

variable {m c} {p : Weights} {X : Fin 32768 → Fin 40 → ℝ} {E : Fin 32768 → Fin 10 → ℝ}

/-- The mask the launch left in memory, as numbers. -/
abbrev maskAt (m : (ℓ : Loc nD τ sig) → Buf (Elt Ideal) ℓ) (c : Dev nD) : Fin 32768 → Fin 20 → ℝ :=
  bits (m ((c : Thread nD τ).loc main_arg1))

/-- The one entry the second point writes is the loss over all rows. -/
theorem out_value (H : HoldsAt m c p X E) :
    (outsAt0 m c t0_1.val t0_1.isLt).1 (ix2 0 0) = (total p X E (maskAt m c) : EReal) := by
  rw [out_last m c t0_1 (by decide) (by decide)]
  have e : (outsAt0 m c (t0_1.val - 1) (Nat.lt_of_le_of_lt (Nat.sub_le _ _) t0_1.isLt)).2
      = stepAt m c t0_0 (k0_pay2 (F := Ideal)) := acc_first m c t0_0 (by decide) (by decide)
  rw [e]
  have R0 := reads t0_0 H
  have R1 := reads t0_1 H
  unfold total
  refine pay1_at _ _ _ _ _ ?_ ?_ ?_
  · refine (step_at_0 R1 _ (step_at_0 R0 0 (pay2_at 0))).trans (congrArg _ ?_)
    rw [← two_blocks fun r => rowSq p (X r) (E r) (maskAt m c r)]
    show 0 + 1 / 2 * (∑ l, rowSq p (X (row t0_0 l)) (E (row t0_0 l)) (maskAt m c (row t0_0 l)))
      + 1 / 2 * (∑ l, rowSq p (X (row t0_1 l)) (E (row t0_1 l)) (maskAt m c (row t0_1 l))) = _
    ring
  · refine (step_at_1 R1 _ (step_at_1 R0 0 (pay2_at 1))).trans (congrArg _ ?_)
    rw [← two_blocks fun r => rowCnt (maskAt m c r)]
    show 0 + 1 / 2 * (∑ l, rowCnt (maskAt m c (row t0_0 l))) + 1 / 2 * (∑ l, rowCnt (maskAt m c (row t0_1 l))) = _
    ring
  · refine (step_at_2 R1 _ (step_at_2 R0 0 (pay2_at 2))).trans (congrArg _ ?_)
    rw [← two_blocks fun r => rowXent p (X r) (E r) (maskAt m c r), ← two_blocks fun r => rowDiv p (X r) (E r)]
    show 0 + (-(∑ l, rowXent p (X (row t0_0 l)) (E (row t0_0 l)) (maskAt m c (row t0_0 l)))
        - 1 / 2 * ∑ l, rowDiv p (X (row t0_0 l)) (E (row t0_0 l)))
      + (-(∑ l, rowXent p (X (row t0_1 l)) (E (row t0_1 l)) (maskAt m c (row t0_1 l)))
        - 1 / 2 * ∑ l, rowDiv p (X (row t0_1 l)) (E (row t0_1 l))) = _
    ring

/-- The program's result, after the last host line: the loss over all rows. -/
theorem tail_value (H : HoldsAt m c p X E) :
    (Pipeline.afterTail₀ cfgs (dats m) 0 (V0 m) [hostOps1] c main_v13 : Vec Ideal S_ .f32)
      = fun _ => (total p X E (maskAt m c) : EReal) := by
  funext i
  unfold Pipeline.afterTail₀
  show StableHlo.after hostOps1 _ (Proc.devRef .tc main_v13) _ = _
  after_results
  have hw : Pipeline.withArrays (cfgs 0).spec c (V0 m c) (fun w => (dats m 0 c).arrAt w (cfgs 0).N)
      (Proc.devRef .tc main_v12) = (outsAt0 m c t0_1.val t0_1.isLt).1 :=
    (Pipeline.withArrays_arr _ winFacts0.arr_inj c _ _ 13).trans (out13 m c)
  rw [hw]
  refine Eq.trans ?_ (out_value H)
  pointwise

/-- The kernel's run: the result is the value `v c` wherever the host's last line leaves `v c`; the arguments are kept. -/
theorem kernel_run (ρ : Dev nD → PrngReg) (v : (c : Dev nD) → Buf (Elt Ideal) ((c.tc : Thread nD τ).loc main_v13))
    (hv : ∀ c, Pipeline.afterTail₀ cfgs (dats m) 0 (V0 m) [hostOps1] c main_v13 = v c) :
    θ_run (defs (F := Ideal)) (onTc (τ := τ) (main (F := Ideal))) ⟨m, fun _ => 0, ρ⟩ (fun r => ∀ c : Dev nD,
      r.2.mem ((c.tc : Thread nD τ).loc main_v13) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have h1 := run_main m ρ
  have h2 := unchanged m ρ
  refine (θ_run defs _ _).mono (fun r h c => ⟨?_, h.2 c⟩) (θ_run_and h1 h2)
  exact (h.1.rest_eq c main_v13 (Pipeline.mem_restRefs_of main_v13 (by decide) (by decide))).trans (hv c)

end Cert.Model

end
-- ==== Proof.Reference.lean ====
/-
  The reference, stage by stage: each of its steps as a function of the arrays it takes, and the whole result as their
  composition (`res_eq`).
-/
module

public import proofs.«01_k».proof.Proof.Gen.ReferenceIdeal.Run
public import Idealize.ShloMosaic.PureOps.Ideal

@[expose] public section

set_option maxRecDepth 16384

noncomputable section

namespace Cert.Model

open Idealize.ShloMosaic Idealize.ShloMosaic.TcCoe Cert.ReferenceIdeal Cert.ReferenceIdeal.Gen Cert.ReferenceIdeal.Value

/-- A scalar literal. -/
def lit (b : BitVec 32) : FVec Ideal S_ .f32 := constant S_ .f32 b

/-- A row of 40 numbers, repeated for every row of the batch. -/
def all40 (a : FVec Ideal S40 .f32) : FVec Ideal S32768x40 .f32 :=
  broadcastInDim S32768x40 ![0, 1] bcast_S1x40_S32768x40_0_1 (broadcastInDim S1x40 ![1] bcast_S40_S1x40_1 a)
/-- A row of 20 numbers, repeated. -/
def all20 (a : FVec Ideal S20 .f32) : FVec Ideal S32768x20 .f32 :=
  broadcastInDim S32768x20 ![0, 1] bcast_S1x20_S32768x20_0_1 (broadcastInDim S1x20 ![1] bcast_S20_S1x20_1 a)
/-- A row of 10 numbers, repeated. -/
def all10 (a : FVec Ideal S10 .f32) : FVec Ideal S32768x10 .f32 :=
  broadcastInDim S32768x10 ![0, 1] bcast_S1x10_S32768x10_0_1 (broadcastInDim S1x10 ![1] bcast_S10_S1x10_1 a)
/-- A number, at every place of a 40-column array. -/
def fill40 (s : FVec Ideal S_ .f32) : FVec Ideal S32768x40 .f32 := broadcastInDim S32768x40 ![] bcast_S_S32768x40 s
/-- A number, at every place of a 20-column array. -/
def fill20 (s : FVec Ideal S_ .f32) : FVec Ideal S32768x20 .f32 := broadcastInDim S32768x20 ![] bcast_S_S32768x20 s
/-- A number, at every place of a 10-column array. -/
def fill10 (s : FVec Ideal S_ .f32) : FVec Ideal S32768x10 .f32 := broadcastInDim S32768x10 ![] bcast_S_S32768x10 s

/-- The hidden layer. -/
def rHid (xy : FVec Ideal S32768x40 .f32) (w b : FVec Ideal S40 .f32) (W1 : FVec Ideal S40x40 .f32)
    (b1 : FVec Ideal S40 .f32) : FVec Ideal S32768x40 .f32 :=
  maximumf (addf (Host.dotGeneral dot_S32768x40_S40x40_S32768x40_1_0_0_1_n_n none (addf (mulf (all40 w) xy) (all40 b)) W1)
    (all40 b1)) (fill40 (lit 0x00000000#32))

/-- The encoder's output. -/
def rEnc (h : FVec Ideal S32768x40 .f32) (W2 : FVec Ideal S40x20 .f32) (b2 : FVec Ideal S20 .f32) :
    FVec Ideal S32768x20 .f32 :=
  addf (Host.dotGeneral dot_S32768x40_S40x20_S32768x20_1_0_0_1_n_n none h W2) (all20 b2)

/-- The means: its first ten columns. -/
def rMu (mv : FVec Ideal S32768x20 .f32) : FVec Ideal S32768x10 .f32 :=
  extractStridedSlice S32768x10 ![0, 0] mv slices_S32768x20_S32768x10_0_0

/-- The log-variances: its last ten. -/
def rLv (mv : FVec Ideal S32768x20 .f32) : FVec Ideal S32768x10 .f32 :=
  extractStridedSlice S32768x10 ![0, 10] mv slices_S32768x20_S32768x10_0_10

/-- The samples. -/
def rSmp (eps mu lv : FVec Ideal S32768x10 .f32) : FVec Ideal S32768x10 .f32 :=
  addf (mulf eps (Host.exp (mulf lv (fill10 (lit 0x3F000000#32))))) mu

/-- The decoder's output. -/
def rOut (s : FVec Ideal S32768x10 .f32) (G1 : FVec Ideal S10x10 .f32) (c1 : FVec Ideal S10 .f32)
    (G2 : FVec Ideal S10x40 .f32) (c2 : FVec Ideal S40 .f32) : FVec Ideal S32768x40 .f32 :=
  addf (Host.dotGeneral dot_S32768x10_S10x40_S32768x40_1_0_0_1_n_n none
    (maximumf (addf (Host.dotGeneral dot_S32768x10_S10x10_S32768x10_1_0_0_1_n_n none s G1) (all10 c1))
      (fill10 (lit 0x00000000#32))) G2) (all40 c2)

/-- The two coordinates of each point, side by side. -/
def rPair (z : FVec Ideal S32768x40 .f32) : FVec Ideal S32768x20x2 .f32 :=
  concatenate S32768x20x2 2
    [⟨S32768x20x1, broadcastInDim S32768x20x1 ![0, 1] bcast_S32768x20_S32768x20x1_0_1
        (extractStridedSlice S32768x20 ![0, 0] z slices_S32768x40_S32768x20_0_0)⟩,
     ⟨S32768x20x1, broadcastInDim S32768x20x1 ![0, 1] bcast_S32768x20_S32768x20x1_0_1
        (extractStridedSlice S32768x20 ![0, 20] z slices_S32768x40_S32768x20_0_20)⟩]
    concatenates_S32768x20x1_S32768x20x1_S32768x20x2_d2

/-- Each point's mean squared error. -/
def rSq (xy o : FVec Ideal S32768x40 .f32) : FVec Ideal S32768x20 .f32 :=
  Host.divf (Host.reduceAdd (mulf (subf (rPair xy) (rPair o)) (subf (rPair xy) (rPair o))) (lit 0x00000000#32)
    reducesTo_S32768x20x2_S32768x20_d2 h_S_) (fill20 (lit 0x40000000#32))

/-- The masked mean of the squared errors. -/
def rL0 (sq A : FVec Ideal S32768x20 .f32) : FVec Ideal S_ .f32 :=
  Host.divf (Host.reduceAdd (mulf sq A) (lit 0x00000000#32) reducesTo_S32768x20_S_d0_1 h_S_)
    (maximumf (Host.reduceAdd A (lit 0x00000000#32) reducesTo_S32768x20_S_d0_1 h_S_) (lit 0x3F800000#32))

/-- The mask, repeated for the two coordinates. -/
def rMask (A : FVec Ideal S32768x20 .f32) : FVec Ideal S32768x40 .f32 :=
  shapeCast S32768x40 (broadcastInDim S1x32768x2x20 ![0, 1, 2, 3] bcast_S1x32768x1x20_S1x32768x2x20_0_1_2_3
    (shapeCast S1x32768x1x20 A shapeCasts_S32768x20_S1x32768x1x20)) shapeCasts_S1x32768x2x20_S32768x40

/-- The masked cross-entropies. -/
def rXe (o xy M : FVec Ideal S32768x40 .f32) : FVec Ideal S32768x40 .f32 :=
  mulf (addf (subf (maximumf o (fill40 (lit 0x00000000#32))) (mulf o xy)) (Host.log1p (Host.exp (Host.negf (Host.absf o)))))
    M

/-- Each row's log-likelihood: the negated total of its cross-entropies. -/
def rPx (xe : FVec Ideal S32768x40 .f32) : FVec Ideal S32768 .f32 :=
  Host.negf (Host.reduceAdd xe (lit 0x00000000#32) reducesTo_S32768x40_S32768_d1 h_S_)

/-- The logarithm of `2π`, as the reference takes it. -/
def rLog : FVec Ideal S_ .f32 := Host.log (lit 0x40C90FDB#32)

/-- Each row's log-density under the standard normal. -/
def rPz (s : FVec Ideal S32768x10 .f32) : FVec Ideal S32768 .f32 :=
  Host.reduceAdd (mulf (fill10 (lit 0xBF000000#32)) (addf (mulf s s) (fill10 rLog))) (lit 0x00000000#32)
    reducesTo_S32768x10_S32768_d1 h_S_

/-- Each row's log-density under the encoder's normal. -/
def rQz (s mu lv : FVec Ideal S32768x10 .f32) : FVec Ideal S32768 .f32 :=
  Host.reduceAdd (mulf (fill10 (lit 0xBF000000#32))
    (addf (addf (mulf (mulf (subf s mu) (subf s mu)) (Host.exp (Host.negf lv))) lv) (fill10 rLog))) (lit 0x00000000#32)
    reducesTo_S32768x10_S32768_d1 h_S_

/-- The loss from its parts. -/
def rLoss (px pz qz : FVec Ideal S32768 .f32) (l0 : FVec Ideal S_ .f32) : FVec Ideal S_ .f32 :=
  addf (Host.negf (Host.divf (Host.reduceAdd (subf (addf px pz) qz) (lit 0x00000000#32) reducesTo_S32768_S_d0 h_S_)
    (lit 0x47000000#32))) (Host.exp l0)

section Whole

variable (xy : FVec Ideal S32768x40 .f32) (att : IVec S32768x20 1) (eps : FVec Ideal S32768x10 .f32)
  (w b : FVec Ideal S40 .f32) (W1 : FVec Ideal S40x40 .f32) (b1 : FVec Ideal S40 .f32) (W2 : FVec Ideal S40x20 .f32)
  (b2 : FVec Ideal S20 .f32) (G1 : FVec Ideal S10x10 .f32) (c1 : FVec Ideal S10 .f32) (G2 : FVec Ideal S10x40 .f32)
  (c2 : FVec Ideal S40 .f32)

/-- The encoder's output, from the arguments. -/
def fEnc : FVec Ideal S32768x20 .f32 := rEnc (rHid xy w b W1 b1) W2 b2
/-- The samples, from the arguments. -/
def fSmp : FVec Ideal S32768x10 .f32 :=
  rSmp eps (rMu (fEnc xy w b W1 b1 W2 b2)) (rLv (fEnc xy w b W1 b1 W2 b2))
/-- The decoder's output, from the arguments. -/
def fOut : FVec Ideal S32768x40 .f32 := rOut (fSmp xy eps w b W1 b1 W2 b2) G1 c1 G2 c2
/-- The mask as numbers. -/
def fAtt : FVec Ideal S32768x20 .f32 := uitofp .f32 att
/-- The reference's result, from the arguments. -/
def fRes : FVec Ideal S_ .f32 :=
  rLoss (rPx (rXe (fOut xy eps w b W1 b1 W2 b2 G1 c1 G2 c2) xy (rMask (fAtt att)))) (rPz (fSmp xy eps w b W1 b1 W2 b2))
    (rQz (fSmp xy eps w b W1 b1 W2 b2) (rMu (fEnc xy w b W1 b1 W2 b2)) (rLv (fEnc xy w b W1 b1 W2 b2)))
    (rL0 (rSq xy (fOut xy eps w b W1 b1 W2 b2 G1 c1 G2 c2)) (fAtt att))

end Whole

/-- The reference's result is the composition of its stages. -/
theorem res_eq (m : (ℓ : Loc nD τ sig) → Buf (Elt Ideal) ℓ) (c : Dev nD) :
    res_out0 m c
      = fRes (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold res_out0 res_main_v93
  rfl

end Cert.Model

end
-- ==== Proof.RefRows.lean ====
/-
  The reference's stages, entry by entry, when every array they take holds real numbers.
-/
module

public import proofs.«01_k».proof.Proof.Reference
public import proofs.«01_k».proof.Proof.Rows
public import proofs.«01_k».proof.Proof.Reals
public import Idealize.ShloMosaic.Lib.Pointwise

@[expose] public section

set_option maxRecDepth 16384

noncomputable section

namespace Cert.Model

open Idealize.ShloMosaic Cert.ReferenceIdeal Cert.ReferenceIdeal.Gen

variable (p : Weights) (X : Fin 32768 → Fin 40 → ℝ) (E : Fin 32768 → Fin 10 → ℝ) (A : Fin 32768 → Fin 20 → ℝ)

/-- The hidden layer. -/
theorem rHid_at (xy : FVec Ideal S32768x40 .f32) (w b : FVec Ideal S40 .f32) (W1 : FVec Ideal S40x40 .f32)
    (b1 : FVec Ideal S40 .f32) (hx : ∀ r k, xy (ix2 r k) = (X r k : EReal)) (hw : ∀ k, w (ix1 k) = (p.w k : EReal))
    (hb : ∀ k, b (ix1 k) = (p.b k : EReal)) (hW : ∀ k j, W1 (ix2 k j) = (p.W1 k j : EReal))
    (hc : ∀ j, b1 (ix1 j) = (p.b1 j : EReal)) (r : Fin 32768) (j : Fin 40) :
    rHid xy w b W1 b1 (ix2 r j) = (hid p (X r) j : EReal) := by
  pointwise [rHid, all40, fill40, lit]
  simp only [hx, hw, hb, hW, hc, ← EReal.coe_mul, ← EReal.coe_add, up_sum, up_max_zero]
  rfl

/-- The encoder's output. -/
theorem rEnc_at (h : FVec Ideal S32768x40 .f32) (W2 : FVec Ideal S40x20 .f32) (b2 : FVec Ideal S20 .f32)
    (hh : ∀ r j, h (ix2 r j) = (hid p (X r) j : EReal)) (hW : ∀ j v, W2 (ix2 j v) = (p.W2 j v : EReal))
    (hb : ∀ v, b2 (ix1 v) = (p.b2 v : EReal)) (r : Fin 32768) (v : Fin 20) :
    rEnc h W2 b2 (ix2 r v) = (enc p (X r) v : EReal) := by
  pointwise [rEnc, all20]
  simp only [hh, hW, hb, ← EReal.coe_mul, ← EReal.coe_add, up_sum]
  rfl

/-- The first ten columns of the encoding are the means. -/
theorem rMu_at (mv : FVec Ideal S32768x20 .f32) (h : ∀ r v, mv (ix2 r v) = (enc p (X r) v : EReal)) (r : Fin 32768)
    (v : Fin 10) : rMu mv (ix2 r v) = (mu p (X r) v : EReal) := by
  pointwise [rMu]
  exact h _ _

/-- The last ten are the log-variances. -/
theorem rLv_at (mv : FVec Ideal S32768x20 .f32) (h : ∀ r v, mv (ix2 r v) = (enc p (X r) v : EReal)) (r : Fin 32768)
    (v : Fin 10) : rLv mv (ix2 r v) = (lv p (X r) v : EReal) := by
  pointwise [rLv]
  exact h _ _

/-- The samples. -/
theorem rSmp_at (eps mean logv : FVec Ideal S32768x10 .f32) (he : ∀ r v, eps (ix2 r v) = (E r v : EReal))
    (hm : ∀ r v, mean (ix2 r v) = (mu p (X r) v : EReal)) (hl : ∀ r v, logv (ix2 r v) = (lv p (X r) v : EReal))
    (r : Fin 32768) (v : Fin 10) : rSmp eps mean logv (ix2 r v) = (smp p (X r) (E r) v : EReal) := by
  pointwise [rSmp, fill10, lit]
  simp only [he, hm, hl, half_lit, ← EReal.coe_mul, Ideal.exp_coe, ← EReal.coe_add]
  unfold smp
  rw [mul_comm (lv p (X r) v)]

/-- The decoder's output. -/
theorem rOut_at (s : FVec Ideal S32768x10 .f32) (G1 : FVec Ideal S10x10 .f32) (c1 : FVec Ideal S10 .f32)
    (G2 : FVec Ideal S10x40 .f32) (c2 : FVec Ideal S40 .f32) (hs : ∀ r v, s (ix2 r v) = (smp p (X r) (E r) v : EReal))
    (hG : ∀ v k, G1 (ix2 v k) = (p.G1 v k : EReal)) (hc : ∀ k, c1 (ix1 k) = (p.c1 k : EReal))
    (hH : ∀ k j, G2 (ix2 k j) = (p.G2 k j : EReal)) (hd : ∀ j, c2 (ix1 j) = (p.c2 j : EReal))
    (r : Fin 32768) (j : Fin 40) : rOut s G1 c1 G2 c2 (ix2 r j) = (out p (X r) (E r) j : EReal) := by
  pointwise [rOut, all10, all40, fill10, lit]
  simp only [hs, hG, hc, hH, hd, ← EReal.coe_mul, ← EReal.coe_add, up_sum, up_max_zero]
  rfl

/-- A point's coordinate: the first from columns 0 to 19, the second from columns 20 to 39. -/
theorem rPair_at (z : FVec Ideal S32768x40 .f32) (Z : Fin 32768 → Fin 40 → ℝ)
    (hz : ∀ r j, z (ix2 r j) = (Z r j : EReal)) (r : Fin 32768) (k : Fin 20) (i : Fin 2) :
    rPair z (ix3 r k i) = (Z r (col i k) : EReal) := by
  pointwise [rPair]
  match i with
  | ⟨0, _⟩ =>
    rw [dif_pos (show (0 : ℕ) < 1 by decide), hz]
    exact congrArg _ (congrArg _ (Fin.ext (show k.val = 20 * 0 + k.val by omega)))
  | ⟨1, _⟩ =>
    rw [dif_neg (show ¬ (1 : ℕ) < 1 by decide), hz]
    rfl

/-- Each point's mean squared error: the mean of its two coordinates'. -/
theorem rSq_at (xy o : FVec Ideal S32768x40 .f32) (O : Fin 32768 → Fin 40 → ℝ)
    (hx : ∀ r j, xy (ix2 r j) = (X r j : EReal)) (ho : ∀ r j, o (ix2 r j) = (O r j : EReal)) (r : Fin 32768)
    (k : Fin 20) : rSq xy o (ix2 r k)
      = ((((X r (col 0 k) - O r (col 0 k)) * (X r (col 0 k) - O r (col 0 k))
          + (X r (col 1 k) - O r (col 1 k)) * (X r (col 1 k) - O r (col 1 k))) / 2 : ℝ) : EReal) := by
  pointwise [rSq, fill20, lit]
  simp only [rPair_at xy X hx, rPair_at o O ho, ← EReal.coe_sub, ← EReal.coe_mul, up_sum, two_lit,
    up_div _ (two_ne_zero (α := ℝ)), Fin.sum_univ_two]

/-- The masked mean of the squared errors; its divisor is at least one. -/
theorem rL0_at (sq a : FVec Ideal S32768x20 .f32) (Q : Fin 32768 → Fin 20 → ℝ)
    (hq : ∀ r k, sq (ix2 r k) = (Q r k : EReal)) (ha : ∀ r k, a (ix2 r k) = (A r k : EReal)) :
    rL0 sq a ix0 = (((∑ r, ∑ k, Q r k * A r k) / max (∑ r, ∑ k, A r k) 1 : ℝ) : EReal) := by
  have hpos : max (∑ r, ∑ k, A r k) 1 ≠ 0 := ne_of_gt (lt_of_lt_of_le one_pos (le_max_right _ _))
  pointwise [rL0, lit]
  simp only [hq, ha, ← EReal.coe_mul, up_sum, ← EReal.coe_one, up_max, up_div _ hpos]

/-- The mask, repeated for the two coordinates. -/
theorem rMask_at (a : FVec Ideal S32768x20 .f32) (ha : ∀ r k, a (ix2 r k) = (A r k : EReal)) (r : Fin 32768) (j : Fin 40) :
    rMask a (ix2 r j) = (A r (pt j) : EReal) := by
  pointwise [rMask]
  exact ha _ _

/-- The masked cross-entropies. -/
theorem rXe_at (o xy M : FVec Ideal S32768x40 .f32) (O : Fin 32768 → Fin 40 → ℝ)
    (ho : ∀ r j, o (ix2 r j) = (O r j : EReal)) (hx : ∀ r j, xy (ix2 r j) = (X r j : EReal))
    (hM : ∀ r j, M (ix2 r j) = (A r (pt j) : EReal)) (r : Fin 32768) (j : Fin 40) :
    rXe o xy M (ix2 r j) = ((xent (O r j) (X r j) * A r (pt j) : ℝ) : EReal) := by
  pointwise [rXe, fill40, lit, Ideal.absf_def]
  simp only [ho, hx, hM, up_max_zero, ← EReal.coe_neg, up_max, Ideal.exp_coe, up_log1p_exp, ← EReal.coe_mul,
    ← EReal.coe_sub, ← EReal.coe_add]
  rfl

/-- Each row's log-likelihood. -/
theorem rPx_at (xe : FVec Ideal S32768x40 .f32) (T : Fin 32768 → Fin 40 → ℝ)
    (h : ∀ r j, xe (ix2 r j) = (T r j : EReal)) (r : Fin 32768) : rPx xe (ix1 r) = ((-∑ j, T r j : ℝ) : EReal) := by
  pointwise [rPx, lit]
  simp only [h, up_sum, ← EReal.coe_neg]

/-- The logarithm of the literal for `2π` is some real number. Which one does not matter: it cancels. -/
theorem rLog_at : ∃ L : ℝ, rLog ix0 = (L : EReal) := by
  obtain ⟨L, h⟩ := two_pi_log
  refine ⟨L, ?_⟩
  pointwise [rLog, lit]
  exact h

/-- Each row's log-density under the standard normal. -/
theorem rPz_at (s : FVec Ideal S32768x10 .f32) (S : Fin 32768 → Fin 10 → ℝ) (L : ℝ) (hL : rLog ix0 = (L : EReal))
    (h : ∀ r j, s (ix2 r j) = (S r j : EReal)) (r : Fin 32768) :
    rPz s (ix1 r) = ((∑ v, (-(1 / 2)) * (S r v * S r v + L) : ℝ) : EReal) := by
  pointwise [rPz, fill10, lit]
  simp only [h, hL, neg_half_lit, ← EReal.coe_mul, ← EReal.coe_add, up_sum]

/-- Each row's log-density under the encoder's normal. -/
theorem rQz_at (s mean logv : FVec Ideal S32768x10 .f32) (S M V : Fin 32768 → Fin 10 → ℝ) (L : ℝ)
    (hL : rLog ix0 = (L : EReal)) (hs : ∀ r j, s (ix2 r j) = (S r j : EReal)) (hm : ∀ r j, mean (ix2 r j) = (M r j : EReal))
    (hv : ∀ r j, logv (ix2 r j) = (V r j : EReal)) (r : Fin 32768) :
    rQz s mean logv (ix1 r)
      = ((∑ v, (-(1 / 2)) * ((S r v - M r v) * (S r v - M r v) * Real.exp (-V r v) + V r v + L) : ℝ) : EReal) := by
  pointwise [rQz, fill10, lit]
  simp only [hs, hm, hv, hL, neg_half_lit, ← EReal.coe_neg, Ideal.exp_coe, ← EReal.coe_mul, ← EReal.coe_sub, ← EReal.coe_add,
    up_sum]

/-- The loss from its parts. -/
theorem rLoss_at (px pz qz : FVec Ideal S32768 .f32) (l0 : FVec Ideal S_ .f32) (P Z Q : Fin 32768 → ℝ) (l : ℝ)
    (hp : ∀ r, px (ix1 r) = (P r : EReal)) (hz : ∀ r, pz (ix1 r) = (Z r : EReal)) (hq : ∀ r, qz (ix1 r) = (Q r : EReal))
    (hl : l0 ix0 = (l : EReal)) :
    rLoss px pz qz l0 ix0 = ((-((∑ r, (P r + Z r - Q r)) / 32768) + Real.exp l : ℝ) : EReal) := by
  have h32 : (32768 : ℝ) ≠ 0 := by norm_num
  pointwise [rLoss, lit]
  simp only [hp, hz, hq, hl, rows_lit, ← EReal.coe_add, ← EReal.coe_sub, up_sum, up_div _ h32, ← EReal.coe_neg, Ideal.exp_coe]

/-- The mask's bits as numbers. -/
theorem fAtt_at (att : IVec S32768x20 1) (r : Fin 32768) (k : Fin 20) :
    fAtt att (ix2 r k) = (((att (ix2 r k)).toNat : ℝ) : EReal) := by
  pointwise [fAtt]
  rfl

end Cert.Model

end
-- ==== Proof.Equation.lean ====
/-
  The reference's result is the loss over all rows: the same real number the kernel's run leaves.
-/
module

public import proofs.«01_k».proof.Proof.RefRows
public import proofs.«01_k».proof.Proof.Args

@[expose] public section

set_option maxRecDepth 16384

noncomputable section

namespace Cert.Model

open Idealize.ShloMosaic Cert.ReferenceIdeal Cert.ReferenceIdeal.Gen

/-- The loss, as the reference arranges it. -/
theorem loss_eq (sq cnt xe dv : ℝ) :
    -((-xe - 1 / 2 * dv) / 32768) + Real.exp (1 / 2 * sq / max (1 / 2 * cnt) 1) = loss sq cnt xe dv := by
  unfold loss
  congr 1
  ring

/-- One row of the reference's likelihood and densities: minus its cross-entropy, minus half its divergence term. -/
theorem row_eq (p : Weights) (x : Fin 40 → ℝ) (e : Fin 10 → ℝ) (a : Fin 20 → ℝ) (L : ℝ) :
    (-∑ j, xent (out p x e j) (x j) * a (pt j)) + (∑ v, (-(1 / 2)) * (smp p x e v * smp p x e v + L))
      - (∑ v, (-(1 / 2)) * ((smp p x e v - mu p x v) * (smp p x e v - mu p x v) * Real.exp (-lv p x v) + lv p x v + L))
      = -(rowXent p x e a) - 1 / 2 * rowDiv p x e := by
  have h := density_gap p x e L
  unfold rowXent
  linarith

/-- The reference's arithmetic after the decoder, over the real numbers and any finite set of rows. -/
theorem rows_eq {ι : Type} [Fintype ι] (p : Weights) (X : ι → Fin 40 → ℝ) (E : ι → Fin 10 → ℝ) (A : ι → Fin 20 → ℝ)
    (L : ℝ) :
    -((∑ r, ((-∑ j, xent (out p (X r) (E r) j) (X r j) * A r (pt j))
        + (∑ v, (-(1 / 2)) * (smp p (X r) (E r) v * smp p (X r) (E r) v + L))
        - (∑ v, (-(1 / 2)) * ((smp p (X r) (E r) v - mu p (X r) v) * (smp p (X r) (E r) v - mu p (X r) v)
            * Real.exp (-lv p (X r) v) + lv p (X r) v + L)))) / 32768)
      + Real.exp ((∑ r, ∑ k, ((X r (col 0 k) - out p (X r) (E r) (col 0 k)) * (X r (col 0 k) - out p (X r) (E r) (col 0 k))
          + (X r (col 1 k) - out p (X r) (E r) (col 1 k)) * (X r (col 1 k) - out p (X r) (E r) (col 1 k))) / 2 * A r k)
        / max (∑ r, ∑ k, A r k) 1)
      = loss (∑ r, rowSq p (X r) (E r) (A r)) (∑ r, rowCnt (A r)) (∑ r, rowXent p (X r) (E r) (A r))
          (∑ r, rowDiv p (X r) (E r)) := by
  have h1 := Finset.sum_congr (rfl : (Finset.univ : Finset ι) = _) fun r _ => row_eq p (X r) (E r) (A r) L
  have h2 := Finset.sum_congr (rfl : (Finset.univ : Finset ι) = _) fun r _ => rowSq_points p (X r) (E r) (A r)
  have h3 := Finset.sum_congr (rfl : (Finset.univ : Finset ι) = _) fun r _ => rowCnt_points (A r)
  rw [h1, h2, h3, Finset.sum_sub_distrib, Finset.sum_neg_distrib, ← Finset.mul_sum, ← Finset.mul_sum, ← Finset.mul_sum]
  exact loss_eq _ _ _ _

/-- The reference's result, when the arguments hold the model's numbers. -/
theorem fRes_eq {p : Weights} {X : Fin 32768 → Fin 40 → ℝ} {E : Fin 32768 → Fin 10 → ℝ}
    {xy : FVec Ideal S32768x40 .f32} (att : IVec S32768x20 1) {eps : FVec Ideal S32768x10 .f32}
    {w b : FVec Ideal S40 .f32} {W1 : FVec Ideal S40x40 .f32} {b1 : FVec Ideal S40 .f32} {W2 : FVec Ideal S40x20 .f32}
    {b2 : FVec Ideal S20 .f32} {G1 : FVec Ideal S10x10 .f32} {c1 : FVec Ideal S10 .f32} {G2 : FVec Ideal S10x40 .f32}
    {c2 : FVec Ideal S40 .f32} (H : Holds p X E xy eps w b W1 b1 W2 b2 G1 c1 G2 c2) :
    fRes xy att eps w b W1 b1 W2 b2 G1 c1 G2 c2 = fun _ => (total p X E (bits att) : EReal) := by
  obtain ⟨L, hL⟩ := rLog_at
  have hEnc : ∀ r v, fEnc xy w b W1 b1 W2 b2 (ix2 r v) = (enc p (X r) v : EReal) :=
    rEnc_at p X _ _ _ (rHid_at p X _ _ _ _ _ H.h0 H.h3 H.h4 H.h5 H.h6) H.h7 H.h8
  have hMu := rMu_at p X _ hEnc
  have hLv := rLv_at p X _ hEnc
  have hSmp : ∀ r v, fSmp xy eps w b W1 b1 W2 b2 (ix2 r v) = (smp p (X r) (E r) v : EReal) :=
    rSmp_at p X E _ _ _ H.h2 hMu hLv
  have hOut : ∀ r j, fOut xy eps w b W1 b1 W2 b2 G1 c1 G2 c2 (ix2 r j) = (out p (X r) (E r) j : EReal) :=
    rOut_at p X E _ _ _ _ _ hSmp H.h9 H.h10 H.h11 H.h12
  have hAtt : ∀ r k, fAtt att (ix2 r k) = (bits att r k : EReal) := fAtt_at att
  have hPx : ∀ r, rPx (rXe (fOut xy eps w b W1 b1 W2 b2 G1 c1 G2 c2) xy (rMask (fAtt att))) (ix1 r)
      = ((-∑ j, xent (out p (X r) (E r) j) (X r j) * bits att r (pt j) : ℝ) : EReal) :=
    rPx_at _ (fun r j => xent (out p (X r) (E r) j) (X r j) * bits att r (pt j))
      (rXe_at X (bits att) _ _ _ (fun r j => out p (X r) (E r) j) hOut H.h0 (rMask_at (bits att) _ hAtt))
  have hPz := rPz_at _ (fun r v => smp p (X r) (E r) v) L hL hSmp
  have hQz := rQz_at _ _ _ (fun r v => smp p (X r) (E r) v) (fun r v => mu p (X r) v) (fun r v => lv p (X r) v) L hL
    hSmp hMu hLv
  have hSq := rSq_at X _ _ (fun r j => out p (X r) (E r) j) H.h0 hOut
  have hL0 := rL0_at (bits att) _ _ _ hSq hAtt
  have key := rLoss_at _ _ _ _ _ _ _ _ hPx hPz hQz hL0
  rw [rows_eq p X E (bits att) L] at key
  funext i
  obtain rfl : i = ix0 := funext fun a => a.elim0
  unfold fRes total
  exact key

end Cert.Model

end
-- ==== Proof.Finite.lean ====
/-
  The precondition, read entry by entry: it says that every entry of the twelve floating-point arguments is a real number,
  so there are real rows, noise and weights that the arguments hold.
-/
module

public import proofs.«01_k».proof.Pre_finite
public import proofs.«01_k».proof.Proof.Args
public import Idealize.ShloMosaic.Lib.Pointwise

@[expose] public section

set_option maxRecDepth 16384

noncomputable section

namespace Cert.Model

open Idealize.ShloMosaic Cert.KernelIdeal

/-- The shape relations the precondition's operations state. -/
theorem preFacts : Cert.Pre_finite.Facts where
  bcast_S_S32768x40 := by decide
  bcast_S_S32768x10 := by decide
  bcast_S_S40 := by decide
  bcast_S_S40x40 := by decide
  bcast_S_S40x20 := by decide
  bcast_S_S20 := by decide
  bcast_S_S10x10 := by decide
  bcast_S_S10 := by decide
  bcast_S_S10x40 := by decide

/-- The literal infinity. -/
theorem inf_lit : Ideal.ofBits .f32 0x7F800000#32 = (⊤ : EReal) := by
  simp only [Ideal.ofBits, Ideal.ieee]
  simp

/-- An extended real whose absolute value is below infinity is a real number. -/
theorem real_of_abs_lt {x : EReal} (h : max x (-x) < ⊤) : ∃ q : ℝ, x = (q : EReal) := by
  induction x using EReal.rec with
  | bot => exact absurd (h.trans_le' (le_max_right _ _)) (by simp)
  | coe q => exact ⟨q, rfl⟩
  | top => exact absurd (h.trans_le' (le_max_left _ _)) (by simp)

/-- A comparison bit that is one says its comparison holds. -/
theorem real_of_bit {x : EReal} (h : Ideal.cmp .olt (max x (-x)) (Ideal.ofBits .f32 0x7F800000#32) = 1#1) :
    ∃ q : ℝ, x = (q : EReal) := by
  rw [inf_lit] at h
  refine real_of_abs_lt ?_
  by_contra hn
  have e : Ideal.cmp .olt (max x (-x)) ⊤ = BitVec.ofBool (decide (max x (-x) < ⊤)) := rfl
  rw [e, decide_eq_false hn] at h
  exact absurd h (by decide)

/-- An array whose entries all pass the finiteness test holds real numbers. -/
theorem real_of_test {S : Shape} (B : Cert.Pre_finite.S_.BroadcastsInDim S (![] : Fin 0 → Fin S.rank)) (x : FVec Ideal S .f32)
    (h : cmpf .olt (Host.absf x) (broadcastInDim S ![] B (constant Cert.Pre_finite.S_ .f32 0x7F800000#32)) = fun _ => 1#1)
    (i : S.Idx) : ∃ q : ℝ, x i = (q : EReal) :=
  real_of_bit (congrFun h i)

/-- Arguments that pass the precondition hold the images of some real rows, noise and weights. -/
theorem exists_holds [Cert.Pre_finite.Facts] (a0 : FVec Ideal S32768x40 .f32) (a1 : IVec S32768x20 1)
    (a2 : FVec Ideal S32768x10 .f32) (a3 a4 : FVec Ideal S40 .f32) (a5 : FVec Ideal S40x40 .f32) (a6 : FVec Ideal S40 .f32)
    (a7 : FVec Ideal S40x20 .f32) (a8 : FVec Ideal S20 .f32) (a9 : FVec Ideal S10x10 .f32) (a10 : FVec Ideal S10 .f32)
    (a11 : FVec Ideal S10x40 .f32) (a12 : FVec Ideal S40 .f32)
    (h0 : (Cert.Pre_finite.fn a0 a1 a2 a3 a4 a5 a6 a7 a8 a9 a10 a11 a12).1 = (fun _ => 1#1))
    (h2 : (Cert.Pre_finite.fn a0 a1 a2 a3 a4 a5 a6 a7 a8 a9 a10 a11 a12).2.1 = (fun _ => 1#1))
    (h3 : (Cert.Pre_finite.fn a0 a1 a2 a3 a4 a5 a6 a7 a8 a9 a10 a11 a12).2.2.1 = (fun _ => 1#1))
    (h4 : (Cert.Pre_finite.fn a0 a1 a2 a3 a4 a5 a6 a7 a8 a9 a10 a11 a12).2.2.2.1 = (fun _ => 1#1))
    (h5 : (Cert.Pre_finite.fn a0 a1 a2 a3 a4 a5 a6 a7 a8 a9 a10 a11 a12).2.2.2.2.1 = (fun _ => 1#1))
    (h6 : (Cert.Pre_finite.fn a0 a1 a2 a3 a4 a5 a6 a7 a8 a9 a10 a11 a12).2.2.2.2.2.1 = (fun _ => 1#1))
    (h7 : (Cert.Pre_finite.fn a0 a1 a2 a3 a4 a5 a6 a7 a8 a9 a10 a11 a12).2.2.2.2.2.2.1 = (fun _ => 1#1))
    (h8 : (Cert.Pre_finite.fn a0 a1 a2 a3 a4 a5 a6 a7 a8 a9 a10 a11 a12).2.2.2.2.2.2.2.1 = (fun _ => 1#1))
    (h9 : (Cert.Pre_finite.fn a0 a1 a2 a3 a4 a5 a6 a7 a8 a9 a10 a11 a12).2.2.2.2.2.2.2.2.1 = (fun _ => 1#1))
    (h10 : (Cert.Pre_finite.fn a0 a1 a2 a3 a4 a5 a6 a7 a8 a9 a10 a11 a12).2.2.2.2.2.2.2.2.2.1 = (fun _ => 1#1))
    (h11 : (Cert.Pre_finite.fn a0 a1 a2 a3 a4 a5 a6 a7 a8 a9 a10 a11 a12).2.2.2.2.2.2.2.2.2.2.1 = (fun _ => 1#1))
    (h12 : (Cert.Pre_finite.fn a0 a1 a2 a3 a4 a5 a6 a7 a8 a9 a10 a11 a12).2.2.2.2.2.2.2.2.2.2.2 = (fun _ => 1#1)) :
    ∃ (p : Weights) (X : Fin 32768 → Fin 40 → ℝ) (E : Fin 32768 → Fin 10 → ℝ),
      Holds p X E a0 a2 a3 a4 a5 a6 a7 a8 a9 a10 a11 a12 := by
  choose q0 e0 using real_of_test _ a0 h0
  choose q2 e2 using real_of_test _ a2 h2
  choose q3 e3 using real_of_test _ a3 h3
  choose q4 e4 using real_of_test _ a4 h4
  choose q5 e5 using real_of_test _ a5 h5
  choose q6 e6 using real_of_test _ a6 h6
  choose q7 e7 using real_of_test _ a7 h7
  choose q8 e8 using real_of_test _ a8 h8
  choose q9 e9 using real_of_test _ a9 h9
  choose q10 e10 using real_of_test _ a10 h10
  choose q11 e11 using real_of_test _ a11 h11
  choose q12 e12 using real_of_test _ a12 h12
  exact ⟨⟨fun k => q3 (ix1 k), fun k => q4 (ix1 k), fun k j => q5 (ix2 k j), fun j => q6 (ix1 j), fun j v => q7 (ix2 j v),
      fun v => q8 (ix1 v), fun v k => q9 (ix2 v k), fun k => q10 (ix1 k), fun k j => q11 (ix2 k j), fun j => q12 (ix1 j)⟩,
    fun r k => q0 (ix2 r k), fun r v => q2 (ix2 r v),
    ⟨fun _ _ => e0 _, fun _ _ => e2 _, fun _ => e3 _, fun _ => e4 _, fun _ _ => e5 _, fun _ => e6 _, fun _ _ => e7 _,
      fun _ => e8 _, fun _ _ => e9 _, fun _ => e10 _, fun _ _ => e11 _, fun _ => e12 _⟩⟩

end Cert.Model

end
-- ==== Proof.lean ====
/-
  The claim, from its parts. The three frames are the generated ones. The transformed kernel is the printed one. The value
  claim joins the kernel's run (Proof/KernelRun.lean) and the reference's (Proof/Equation.lean): under the precondition the
  arguments hold real numbers (Proof/Finite.lean), and both results are the loss over all rows of those numbers.
-/
module

public import proofs.«01_k».proof.Proof.Gen.ReferenceIdeal.Run
public import proofs.«01_k».proof.Proof.KernelRun
public import proofs.«01_k».proof.Proof.Equation
public import proofs.«01_k».proof.Proof.Finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Model

/-- The reference ends with its arguments as they began. It declares no semaphore, so none is left up. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The value claim: the kernel and the reference end with the same number. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  have hH : ∀ c, ∃ (p : Weights) (X : Fin 32768 → Fin 40 → ℝ) (E : Fin 32768 → Fin 10 → ℝ), HoldsAt m c p X E := by
    intro c
    obtain ⟨h0, h2, h3, h4, h5, h6, h7, h8, h9, h10, h11, h12⟩ := hpre c
    exact @exists_holds preFacts _ _ _ _ _ _ _ _ _ _ _ _ _ h0 h2 h3 h4 h5 h6 h7 h8 h9 h10 h11 h12
  choose p X E H using hH
  refine ⟨fun c => fun _ => (total (p c) (X c) (E c) (maskAt m c) : EReal), ?_, ?_⟩
  · exact kernel_run g _ fun c => tail_value (H c)
  · refine (θ_run Cert.ReferenceIdeal.defs _ _).mono (fun r h c => ⟨(h c).1.trans ?_, (h c).2⟩)
      (Cert.ReferenceIdeal.Value.run m' g')
    obtain ⟨e0, e1, e2, e3, e4, e5, e6, e7, e8, e9, e10, e11, e12⟩ := hargs c
    refine (res_eq m' c).trans ?_
    rw [e0, e1, e2, e3, e4, e5, e6, e7, e8, e9, e10, e11, e12]
    exact fRes_eq _ (H c)

/-- All the claims at once. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, reference_frame,
    fun m g _ => reference_frame m g trivial, trivial, algebraic⟩

end Cert.Proof

end
